-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1024x256 : Shape := ⟨3, ![4, 1024, 256]⟩
abbrev S8192x256 : Shape := ⟨2, ![8192, 256]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4x1024x256 .f32) (main_arg1 : FVec F S8192x256 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S4x1024x256 : Shape := ⟨3, ![4, 1024, 256]⟩
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S16x1x256 : Shape := ⟨3, ![16, 1, 256]⟩
abbrev S1x1 : Shape := ⟨2, ![1, 1]⟩
abbrev S256x1 : Shape := ⟨2, ![256, 1]⟩
abbrev S1x2048 : Shape := ⟨2, ![1, 2048]⟩
abbrev S256x256 : Shape := ⟨2, ![256, 256]⟩
abbrev S2048x256 : Shape := ⟨2, ![2048, 256]⟩
abbrev S1x1x256 : Shape := ⟨3, ![1, 1, 256]⟩
abbrev S256x2048 : Shape := ⟨2, ![256, 2048]⟩
abbrev S256 : Shape := ⟨1, ![256]⟩
abbrev S1 : Shape := ⟨1, ![1]⟩
abbrev S32x1x128 : Shape := ⟨3, ![32, 1, 128]⟩
abbrev S4096x8192 : Shape := ⟨2, ![4096, 8192]⟩
abbrev S1x1x128 : Shape := ⟨3, ![1, 1, 128]⟩
abbrev S128x8192 : Shape := ⟨2, ![128, 8192]⟩
abbrev S128x256 : Shape := ⟨2, ![128, 256]⟩
abbrev S128x1 : Shape := ⟨2, ![128, 1]⟩
abbrev S4x1024 : Shape := ⟨2, ![4, 1024]⟩
abbrev S4x1024x8192 : Shape := ⟨3, ![4, 1024, 8192]⟩

abbrev nBuf : Space → Nat
  | .hbm => 22
  | .vmem => 23
  | .smem => 0
  | _ => 0

abbrev bufTy : (tb : Table) → Fin (tcTables nBuf tb) → BufTy
  | .hbm, ⟨0, _⟩ => ⟨S4x1024x256, .f32⟩
  | .hbm, ⟨1, _⟩ => ⟨S8192x256, .f32⟩
  | .hbm, ⟨2, _⟩ => ⟨S4096x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x8192, .f32⟩
  | .hbm, ⟨11, _⟩ => ⟨S16x1x256, .i32⟩
  | .hbm, ⟨12, _⟩ => ⟨S1x1, .f32⟩
  | .hbm, ⟨13, _⟩ => ⟨S32x1x128, .i32⟩
  | .hbm, ⟨14, _⟩ => ⟨S4096x8192, .f32⟩
  | .hbm, ⟨15, _⟩ => ⟨S4096x256, .f32⟩
  | .hbm, ⟨16, _⟩ => ⟨S1x1, .f32⟩
  | .hbm, ⟨17, _⟩ => ⟨S4x1024, .i32⟩
  | .hbm, ⟨18, _⟩ => ⟨S4x1024x256, .f32⟩
  | .hbm, ⟨19, _⟩ => ⟨S4x1024x8192, .f32⟩
  | .hbm, ⟨20, _⟩ => ⟨S_, .f32⟩
  | .hbm, ⟨21, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S1x2048, .f32⟩
  | .local _ .vmem, ⟨3, _⟩ => ⟨S1x2048, .f32⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S1x1x256, .i32⟩
  | .local _ .vmem, ⟨9, _⟩ => ⟨S1x1x256, .i32⟩
  | .local _ .vmem, ⟨10, _⟩ => ⟨S1x1, .f32⟩
  | .local _ .vmem, ⟨11, _⟩ => ⟨S256x1, .f32⟩
  | .local _ .vmem, ⟨12, _⟩ => ⟨S256x1, .i32⟩
  | .local _ .vmem, ⟨13, _⟩ => ⟨S1x1, .f32⟩
  | .local _ .vmem, ⟨14, _⟩ => ⟨S1x1x128, .i32⟩
  | .local _ .vmem, ⟨15, _⟩ => ⟨S1x1x128, .i32⟩
  | .local _ .vmem, ⟨16, _⟩ => ⟨S8192x256, .f32⟩
  | .local _ .vmem, ⟨17, _⟩ => ⟨S128x8192, .f32⟩
  | .local _ .vmem, ⟨18, _⟩ => ⟨S128x8192, .f32⟩
  | .local _ .vmem, ⟨19, _⟩ => ⟨S128x256, .f32⟩
  | .local _ .vmem, ⟨20, _⟩ => ⟨S128x256, .f32⟩
  | .local _ .vmem, ⟨21, _⟩ => ⟨S1x1, .f32⟩
  | .local _ .vmem, ⟨22, _⟩ => ⟨S1x8192, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨1, ![32], ![false]⟩

def k1_cond1 (i : grid1.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_14 : BitVec 32 := 0#32
  let v24 : BitVec 1 := Scalar.cmpi .ne v23 c0_i32_14
  v24

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S4x1024x256 : Shape := ⟨3, ![4, 1024, 256]⟩
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S256x8192 : Shape := ⟨2, ![256, 8192]⟩
abbrev S1 : Shape := ⟨1, ![1]⟩
abbrev S1x1 : Shape := ⟨2, ![1, 1]⟩
abbrev S4x1024 : Shape := ⟨2, ![4, 1024]⟩
abbrev S4x1024x8192 : Shape := ⟨3, ![4, 1024, 8192]⟩

abbrev nBuf : Space → Nat
  | .hbm => 81
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S8192x256, .f32⟩
  | .hbm, ⟨2, _⟩ => ⟨S4096x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S256x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .i32⟩
  | .hbm, ⟨21, _⟩ => ⟨S_, .f32⟩
  | .hbm, ⟨22, _⟩ => ⟨S_, .i32⟩
  | .hbm, ⟨23, _⟩ => ⟨S4096, .f32⟩
  | .hbm, ⟨24, _⟩ => ⟨S4096, .i32⟩
  | .hbm, ⟨25, _⟩ => ⟨S4096x1, .i32⟩
  | .hbm, ⟨26, _⟩ => ⟨S1x8192, .i32⟩
  | .hbm, ⟨27, _⟩ => ⟨S4096x8192, .i32⟩
  | .hbm, ⟨28, _⟩ => ⟨S4096x8192, .i32⟩
  | .hbm, ⟨29, _⟩ => ⟨S4096x8192, .i1⟩
  | .hbm, ⟨30, _⟩ => ⟨S4096x8192, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S1x1, .i32⟩
  | .hbm, ⟨44, _⟩ => ⟨S4096x1, .i32⟩
  | .hbm, ⟨45, _⟩ => ⟨S4096x1, .i1⟩
  | .hbm, ⟨46, _⟩ => ⟨S4096x1, .i1⟩
  | .hbm, ⟨47, _⟩ => ⟨S_, .i1⟩
  | .hbm, ⟨48, _⟩ => ⟨S4096, .i1⟩
  | .hbm, ⟨49, _⟩ => ⟨S4096x256, .f32⟩
  | .hbm, ⟨50, _⟩ => ⟨S4096x256, .i1⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x1024x256, .f32⟩
  | .hbm, ⟨64, _⟩ => ⟨S4x1024x256, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x1024, .i32⟩
  | .hbm, ⟨80, _⟩ => ⟨S4x1024x8192, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_cst_4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩

abbrev nD : Nat := 1
abbrev τ : Topo := Topo.v7x

variable {F : FTy → Type} [FloatOps F]
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.RegionArraysS
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two zero offsets are the zero offset. -/
theorem hz2 : (![0, 0] : Fin 2 → Nat) = fun _ => 0 := funext fun a => by fin_cases a <;> rfl
/-- Three zero offsets are the zero offset. -/
theorem hz3 : (![0, 0, 0] : Fin 3 → Nat) = fun _ => 0 := funext fun a => by fin_cases a <;> rfl

/-- After a store of the whole view, whatever was stored before it, the view reads what was stored. -/
theorem read_store {κ : Kind} {sp : Space} {S : Shape} {e : EltTy} (v : View sig κ sp S e)
    (f : v.ty.Contents (Elt F)) {off : Fin S.rank → Nat} (h : off = fun _ => 0) (inb : ∀ a, off a + S.size a ≤ S.size a)
    (w : Vec F S e) (L : List (View.Piece (Elt F) S e)) :
    v.read (Elt F) (v.writes (Elt F) f (⟨Rect.unit off S.size inb, w⟩ :: L)) = w := by
  rw [View.read_writes_eq_canon _ _ _ fun y => ⟨_, List.mem_cons_self, View.mem_set_unit_zero h inb y⟩,
    View.canon_cons_unit_zero h]

/-- The first branch condition of the first kernel's body: the block column is the first. -/
abbrev first0 (i : grid0.Coords) : Prop := (Scalar.cmpi .ne (Scalar.extui (Scalar.cmpi .eq (BitVec.ofNat 32 (i 1).val) 0#32)) 0#32) = 1#1

set_option maxHeartbeats 1000000 in
/-- The first kernel's body at a first block column: the running minimum and its index restart. -/
theorem run0_A (c : Dev nD) (i : grid0.Coords) (arg2 : Memref sig .tc .vmem S256x1 .f32) (harg2 : arg2.IsWhole) (arg3 : Memref sig .tc .vmem S1x2048 .f32) (harg3 : arg3.IsWhole) (arg4 : Memref sig .tc .vmem S256x256 .f32) (harg4 : arg4.IsWhole) (arg5 : Memref sig .tc .vmem S2048x256 .f32) (harg5 : arg5.IsWhole) (arg6 : Memref sig .tc .vmem S1x1x256 .i32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x1 .i32) (harg9 : arg9.IsWhole) (arg10 : Memref sig .tc .vmem S1x1 .f32) (harg10 : arg10.IsWhole) (hc0 : first0 i) (hc1 : ¬k0_cond2 i = 1#1)
    (x0 : Vec F S256x1 .f32) (x1 : Vec F S1x2048 .f32) (x2 : Vec F S256x256 .f32) (x3 : Vec F S2048x256 .f32) (y4 : Vec F S1x1x256 .i32) (y5 : Vec F S1x1 .f32) (mn : Vec F S256x1 .f32) (ai : Vec F S256x1 .i32) (acc : Vec F S1x1 .f32) (E : Set ℕ) (K : PUnit → sProp 𝕄) :
    iprop(owns (c : Thread nD τ) arg2 fullShare (x0)
      ∗ owns (c : Thread nD τ) arg3 fullShare (x1)
      ∗ owns (c : Thread nD τ) arg4 fullShare (x2)
      ∗ owns (c : Thread nD τ) arg5 fullShare (x3)
      ∗ owns (c : Thread nD τ) arg6 fullShare (y4)
      ∗ owns (c : Thread nD τ) arg7 fullShare (y5)
      ∗ owns (c : Thread nD τ) arg8 fullShare (mn)
      ∗ owns (c : Thread nD τ) arg9 fullShare (ai)
      ∗ owns (c : Thread nD τ) arg10 fullShare (acc)
      ∗ (iprop(owns (c : Thread nD τ) arg2 fullShare (x0)
          ∗ owns (c : Thread nD τ) arg3 fullShare (x1)
          ∗ owns (c : Thread nD τ) arg4 fullShare (x2)
          ∗ owns (c : Thread nD τ) arg5 fullShare (x3)
          ∗ owns (c : Thread nD τ) arg6 fullShare (y4)
          ∗ owns (c : Thread nD τ) arg7 fullShare (y5)
          ∗ owns (c : Thread nD τ) arg8 fullShare (k0_pay2 (k0_pay10 x2 x3 x0 x1) (k0_pay11 x2 x3 x0 x1 (k0_pay7 (F := F))) (k0_pay7 (F := F)))
          ∗ owns (c : Thread nD τ) arg9 fullShare (k0_pay1 (k0_pay12 i x2 x3 x0 x1 (k0_pay7 (F := F)) k0_pay8))
          ∗ owns (c : Thread nD τ) arg10 fullShare (acc)) -∗ K ⟨⟩))
    ⊢ wp frame (wpE (defs₀ (F := F)) Variants.none c none) E (cc0__argmin_body i arg2 harg2 arg3 harg3 arg4 harg4 arg5 harg5 arg6 harg6 arg7 harg7 arg8 harg8 arg9 harg9 arg10 harg10) K := by
  simp only [cc0__argmin_body_eq_skeleton]; unfold cc0__argmin_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H7]
  · iexists _; isplitr; swap; · iexact H7
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  iexists _; isplitr; · ipureintro; exact harg10.read_unread _
  iexact H8

set_option maxHeartbeats 1000000 in
/-- The first kernel's body at a middle block column: the running minimum and its index move on. -/
theorem run0_B (c : Dev nD) (i : grid0.Coords) (arg2 : Memref sig .tc .vmem S256x1 .f32) (harg2 : arg2.IsWhole) (arg3 : Memref sig .tc .vmem S1x2048 .f32) (harg3 : arg3.IsWhole) (arg4 : Memref sig .tc .vmem S256x256 .f32) (harg4 : arg4.IsWhole) (arg5 : Memref sig .tc .vmem S2048x256 .f32) (harg5 : arg5.IsWhole) (arg6 : Memref sig .tc .vmem S1x1x256 .i32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x1 .i32) (harg9 : arg9.IsWhole) (arg10 : Memref sig .tc .vmem S1x1 .f32) (harg10 : arg10.IsWhole) (hc0 : ¬first0 i) (hc1 : ¬k0_cond2 i = 1#1)
    (x0 : Vec F S256x1 .f32) (x1 : Vec F S1x2048 .f32) (x2 : Vec F S256x256 .f32) (x3 : Vec F S2048x256 .f32) (y4 : Vec F S1x1x256 .i32) (y5 : Vec F S1x1 .f32) (mn : Vec F S256x1 .f32) (ai : Vec F S256x1 .i32) (acc : Vec F S1x1 .f32) (E : Set ℕ) (K : PUnit → sProp 𝕄) :
    iprop(owns (c : Thread nD τ) arg2 fullShare (x0)
      ∗ owns (c : Thread nD τ) arg3 fullShare (x1)
      ∗ owns (c : Thread nD τ) arg4 fullShare (x2)
      ∗ owns (c : Thread nD τ) arg5 fullShare (x3)
      ∗ owns (c : Thread nD τ) arg6 fullShare (y4)
      ∗ owns (c : Thread nD τ) arg7 fullShare (y5)
      ∗ owns (c : Thread nD τ) arg8 fullShare (mn)
      ∗ owns (c : Thread nD τ) arg9 fullShare (ai)
      ∗ owns (c : Thread nD τ) arg10 fullShare (acc)
      ∗ (iprop(owns (c : Thread nD τ) arg2 fullShare (x0)
          ∗ owns (c : Thread nD τ) arg3 fullShare (x1)
          ∗ owns (c : Thread nD τ) arg4 fullShare (x2)
          ∗ owns (c : Thread nD τ) arg5 fullShare (x3)
          ∗ owns (c : Thread nD τ) arg6 fullShare (y4)
          ∗ owns (c : Thread nD τ) arg7 fullShare (y5)
          ∗ owns (c : Thread nD τ) arg8 fullShare (k0_pay2 (k0_pay10 x2 x3 x0 x1) (k0_pay11 x2 x3 x0 x1 mn) mn)
          ∗ owns (c : Thread nD τ) arg9 fullShare (k0_pay1 (k0_pay12 i x2 x3 x0 x1 mn ai))
          ∗ owns (c : Thread nD τ) arg10 fullShare (acc)) -∗ K ⟨⟩))
    ⊢ wp frame (wpE (defs₀ (F := F)) Variants.none c none) E (cc0__argmin_body i arg2 harg2 arg3 harg3 arg4 harg4 arg5 harg5 arg6 harg6 arg7 harg7 arg8 harg8 arg9 harg9 arg10 harg10) K := by
  simp only [cc0__argmin_body_eq_skeleton]; unfold cc0__argmin_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H7]
  · iexists _; isplitr; swap; · iexact H7
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  iexists _; isplitr; · ipureintro; exact harg10.read_unread _
  iexact H8

set_option maxHeartbeats 1000000 in
/-- The first kernel's body at a last block column: the running minimum moves on, the codes are stored, the sum of minima moves on and its scaled value is stored. -/
theorem run0_C (c : Dev nD) (i : grid0.Coords) (arg2 : Memref sig .tc .vmem S256x1 .f32) (harg2 : arg2.IsWhole) (arg3 : Memref sig .tc .vmem S1x2048 .f32) (harg3 : arg3.IsWhole) (arg4 : Memref sig .tc .vmem S256x256 .f32) (harg4 : arg4.IsWhole) (arg5 : Memref sig .tc .vmem S2048x256 .f32) (harg5 : arg5.IsWhole) (arg6 : Memref sig .tc .vmem S1x1x256 .i32) (harg6 : arg6.IsWhole) (arg7 : Memref sig .tc .vmem S1x1 .f32) (harg7 : arg7.IsWhole) (arg8 : Memref sig .tc .vmem S256x1 .f32) (harg8 : arg8.IsWhole) (arg9 : Memref sig .tc .vmem S256x1 .i32) (harg9 : arg9.IsWhole) (arg10 : Memref sig .tc .vmem S1x1 .f32) (harg10 : arg10.IsWhole) (hc0 : ¬first0 i) (hc1 : k0_cond2 i = 1#1)
    (x0 : Vec F S256x1 .f32) (x1 : Vec F S1x2048 .f32) (x2 : Vec F S256x256 .f32) (x3 : Vec F S2048x256 .f32) (y4 : Vec F S1x1x256 .i32) (y5 : Vec F S1x1 .f32) (mn : Vec F S256x1 .f32) (ai : Vec F S256x1 .i32) (acc : Vec F S1x1 .f32) (E : Set ℕ) (K : PUnit → sProp 𝕄) :
    iprop(owns (c : Thread nD τ) arg2 fullShare (x0)
      ∗ owns (c : Thread nD τ) arg3 fullShare (x1)
      ∗ owns (c : Thread nD τ) arg4 fullShare (x2)
      ∗ owns (c : Thread nD τ) arg5 fullShare (x3)
      ∗ owns (c : Thread nD τ) arg6 fullShare (y4)
      ∗ owns (c : Thread nD τ) arg7 fullShare (y5)
      ∗ owns (c : Thread nD τ) arg8 fullShare (mn)
      ∗ owns (c : Thread nD τ) arg9 fullShare (ai)
      ∗ owns (c : Thread nD τ) arg10 fullShare (acc)
      ∗ (iprop(owns (c : Thread nD τ) arg2 fullShare (x0)
          ∗ owns (c : Thread nD τ) arg3 fullShare (x1)
          ∗ owns (c : Thread nD τ) arg4 fullShare (x2)
          ∗ owns (c : Thread nD τ) arg5 fullShare (x3)
          ∗ owns (c : Thread nD τ) arg6 fullShare (k0_pay3 (F := F) (k0_pay1 (k0_pay12 i x2 x3 x0 x1 mn ai)))
          ∗ owns (c : Thread nD τ) arg7 fullShare (k0_pay6 (BitVec.ofNat 32 (i 0).val) (k0_pay2 (k0_pay10 x2 x3 x0 x1) (k0_pay11 x2 x3 x0 x1 mn) mn) acc)
          ∗ owns (c : Thread nD τ) arg8 fullShare (k0_pay2 (k0_pay10 x2 x3 x0 x1) (k0_pay11 x2 x3 x0 x1 mn) mn)
          ∗ owns (c : Thread nD τ) arg9 fullShare (k0_pay1 (k0_pay12 i x2 x3 x0 x1 mn ai))
          ∗ owns (c : Thread nD τ) arg10 fullShare (k0_pay5 (BitVec.ofNat 32 (i 0).val) (k0_pay2 (k0_pay10 x2 x3 x0 x1) (k0_pay11 x2 x3 x0 x1 mn) mn) acc)) -∗ K ⟨⟩))
    ⊢ wp frame (wpE (defs₀ (F := F)) Variants.none c none) E (cc0__argmin_body i arg2 harg2 arg3 harg3 arg4 harg4 arg5 harg5 arg6 harg6 arg7 harg7 arg8 harg8 arg9 harg9 arg10 harg10) K := by
  simp only [cc0__argmin_body_eq_skeleton]; unfold cc0__argmin_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    try sl_unfold_words
    dsimp only
    rw [read_store (S := S1x1x256) _ _ hz3]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H5]
  · iexists _; isplitr; swap; · iexact H5
    ipureintro
    try sl_unfold_words
    dsimp only
    rw [read_store (S := S1x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H6]
  · iexists _; isplitr; swap; · iexact H6
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H7]
  · iexists _; isplitr; swap; · iexact H7
    ipureintro
    try sl_unfold_words
    dsimp only
    rw [read_store (S := S256x1) _ _ hz2]
    simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  iexists _; isplitr; swap; · iexact H8
  ipureintro
  try sl_unfold_words
  dsimp only
  rw [read_store (S := S1x1) _ _ hz2]
  simp only [View.readAt_eq_ld, View.readCov_unit_zero (S := S256x1) _ hz2, harg2.read_unread, harg3.read_unread, harg4.read_unread, harg5.read_unread, harg6.read_unread, harg7.read_unread, harg8.read_unread, harg9.read_unread, harg10.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]

end Cert.KernelIdeal.Hand

end
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.RegionArraysS
public import Idealize.ShloMosaic.Lib.Ring
public import Idealize.ShloMosaic.Lib.Tactic
public import Idealize.ShloMosaic.Lib.WordCmp
public import proofs.«01_k».proof.Proof.Run0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The first region: the running minimum over the blocks of codewords -/

/-- The first launch has 64 steps. -/
theorem N0_eq : cfg0.N = 64 := N_0

/-- Point `k` of the grid, wrapped round. -/
def pt0 (k : ℕ) : Fin cfg0.N := ⟨k % 64, by rw [N0_eq]; omega⟩

/-- The step of a step number is the step itself. -/
theorem pt0_val (t : Fin cfg0.N) : pt0 t.val = t :=
  Fin.ext (Nat.mod_eq_of_lt (lt_of_lt_of_eq t.isLt N0_eq))

/-- The block of points at a step: the step over four. -/
theorem coords0_0 (t : Fin cfg0.N) : (grid0.coords t 0).val = t.val / 4 := by
  have ht : t.val < 64 := Nat.lt_of_lt_of_eq t.isLt N_0
  have e0 : (grid0.coords t 0).val = t.val / 4 % 16 := Pipeline.Grid.coords_val t 0 (by decide) rfl
  rw [e0]; omega

/-- The block of codewords at a step: the step modulo four. -/
theorem coords0_1 (t : Fin cfg0.N) : (grid0.coords t 1).val = t.val % 4 := by
  have e1 : (grid0.coords t 1).val = t.val / 1 % 4 := Pipeline.Grid.coords_val t 1 (by decide) rfl
  rw [e1, Nat.div_one]

/-- The first branch is taken where the block column is the first. -/
theorem hfirst0 (t : Fin cfg0.N) : first0 (grid0.coords t) ↔ t.val % 4 = 0 := by
  have ht : t.val < 64 := Nat.lt_of_lt_of_eq t.isLt N_0
  simp only [first0, coords0_1]
  word_cmp

/-- The second branch is taken where the block column is the last. -/
theorem hlast0 (t : Fin cfg0.N) : k0_cond2 (grid0.coords t) = 1#1 ↔ t.val % 4 = 3 := by
  have ht : t.val < 64 := Nat.lt_of_lt_of_eq t.isLt N_0
  simp only [k0_cond2, coords0_1]
  word_cmp

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The minimum and its index after point `k`, from those before it. -/
def step0 (c : Dev nD) (k : ℕ) (s : Vec F S256x1 .f32 × Vec F S256x1 .i32) : Vec F S256x1 .f32 × Vec F S256x1 .i32 :=
  (k0_pay2 (k0_pay10 (iblk0 V c 2 (pt0 k)) (iblk0 V c 3 (pt0 k)) (iblk0 V c 0 (pt0 k)) (iblk0 V c 1 (pt0 k)))
      (k0_pay11 (iblk0 V c 2 (pt0 k)) (iblk0 V c 3 (pt0 k)) (iblk0 V c 0 (pt0 k)) (iblk0 V c 1 (pt0 k)) s.1) s.1,
    k0_pay1 (k0_pay12 (grid0.coords (pt0 k)) (iblk0 V c 2 (pt0 k)) (iblk0 V c 3 (pt0 k)) (iblk0 V c 0 (pt0 k)) (iblk0 V c 1 (pt0 k)) s.1 s.2))

/-- The running minimum and its index after point `k`: restarted at each first block column. -/
def scr (c : Dev nD) : ℕ → Vec F S256x1 .f32 × Vec F S256x1 .i32
  | 0 => step0 V c 0 (k0_pay7, k0_pay8)
  | k + 1 => step0 V c (k + 1) (if (k + 1) % 4 = 0 then (k0_pay7, k0_pay8) else scr c k)

/-- At the first block of codewords the running minimum starts anew. -/
theorem scr_first (c : Dev nD) (k : ℕ) (h : k % 4 = 0) : scr V c k = step0 V c k (k0_pay7, k0_pay8) := by
  cases k with
  | zero => rw [scr]
  | succ k => rw [scr, if_pos h]

/-- At a later block of codewords the running minimum goes on from the step before. -/
theorem scr_next (c : Dev nD) (k : ℕ) (h : ¬k % 4 = 0) : scr V c k = step0 V c k (scr V c (k - 1)) := by
  cases k with
  | zero => exact absurd rfl h
  | succ k => rw [scr, if_neg h]; rfl

/-- The sum of the minima over the row blocks before block `n`. -/
def accP (c : Dev nD) : ℕ → Vec F S1x1 .f32
  | 0 => broadcast S1x1 (Scalar.ofBits .f32 0x00000000#32)
  | n + 1 => k0_pay5 (BitVec.ofNat 32 n) (scr V c (4 * n + 3)).1 (accP c n)

/-- At the first row block the sum does not read what the scratch held. -/
theorem pay4_zero (v : Vec F S256x1 .f32) (a b : Vec F S1x1 .f32) (x : BitVec 32) (hx : x = 0#32) :
    k0_pay4 x v a = k0_pay4 x v b := by
  subst hx; rfl

/-- At the first block of points the sum does not look at what was stored before. -/
theorem pay5_zero (v : Vec F S256x1 .f32) (a b : Vec F S1x1 .f32) (x : BitVec 32) (hx : x = 0#32) :
    k0_pay5 x v a = k0_pay5 x v b := by
  unfold k0_pay5; rw [pay4_zero v a b x hx]

/-- At the first block of points the scaled sum does not look at what was stored before. -/
theorem pay6_zero (v : Vec F S256x1 .f32) (a b : Vec F S1x1 .f32) (x : BitVec 32) (hx : x = 0#32) :
    k0_pay6 x v a = k0_pay6 x v b := by
  unfold k0_pay6; rw [pay4_zero v a b x hx]

/-- Window 0's current staging memref at a point. -/
abbrev ms0_0 (t : Fin cfg0.N) : Memref sig .tc .vmem S256x1 .f32 := win0_0.stage (cfg0.slots t 0)
/-- The staging buffer for the squared lengths of the points is a whole buffer. -/
abbrev hs0_0 (t : Fin cfg0.N) : (ms0_0 t).IsWhole := hstage0_0 ((cfg0.slots t 0).cast nbuf0_0)
/-- Window 1's current staging memref at a point. -/
abbrev ms0_1 (t : Fin cfg0.N) : Memref sig .tc .vmem S1x2048 .f32 := win0_1.stage (cfg0.slots t 1)
/-- The staging buffer for the squared lengths of the codewords is a whole buffer. -/
abbrev hs0_1 (t : Fin cfg0.N) : (ms0_1 t).IsWhole := hstage0_1 ((cfg0.slots t 1).cast nbuf0_1)
/-- Window 2's current staging memref at a point. -/
abbrev ms0_2 (t : Fin cfg0.N) : Memref sig .tc .vmem S256x256 .f32 := win0_2.stage (cfg0.slots t 2)
/-- The staging buffer for the points is a whole buffer. -/
abbrev hs0_2 (t : Fin cfg0.N) : (ms0_2 t).IsWhole := hstage0_2 ((cfg0.slots t 2).cast nbuf0_2)
/-- Window 3's current staging memref at a point. -/
abbrev ms0_3 (t : Fin cfg0.N) : Memref sig .tc .vmem S2048x256 .f32 := win0_3.stage (cfg0.slots t 3)
/-- The staging buffer for the codewords is a whole buffer. -/
abbrev hs0_3 (t : Fin cfg0.N) : (ms0_3 t).IsWhole := hstage0_3 ((cfg0.slots t 3).cast nbuf0_3)
/-- Window 4's current staging memref at a point. -/
abbrev ms0_4 (t : Fin cfg0.N) : Memref sig .tc .vmem S1x1x256 .i32 := win0_4.stage (cfg0.slots t 4)
/-- The staging buffer for the codes is a whole buffer. -/
abbrev hs0_4 (t : Fin cfg0.N) : (ms0_4 t).IsWhole := hstage0_4 ((cfg0.slots t 4).cast nbuf0_4)
/-- Window 5's current staging memref at a point. -/
abbrev ms0_5 (t : Fin cfg0.N) : Memref sig .tc .vmem S1x1 .f32 := win0_5.stage (cfg0.slots t 5)
/-- The staging buffer for the loss is a whole buffer. -/
abbrev hs0_5 (t : Fin cfg0.N) : (ms0_5 t).IsWhole := hstage0_5 ((cfg0.slots t 5).cast nbuf0_5)
/-- The scratch for the minimum. -/
abbrev scM0_0 : Memref sig .tc .vmem S256x1 .f32 := Memref.whole cc0_scratch0
/-- The scratch for the index. -/
abbrev scM0_1 : Memref sig .tc .vmem S256x1 .i32 := Memref.whole cc0_scratch1
/-- The scratch for the sum. -/
abbrev scM0_2 : Memref sig .tc .vmem S1x1 .f32 := Memref.whole cc0_scratch2

/-- The scoped buffers that the first region does not touch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the scratch buffers hold before point `n`. -/
def Inv0 (c : Dev nD) (n : ℕ) (mn : Vec F S256x1 .f32) (ai : Vec F S256x1 .i32) (acc : Vec F S1x1 .f32) : Prop :=
  (¬n % 4 = 0 → mn = (scr V c (n - 1)).1 ∧ ai = (scr V c (n - 1)).2) ∧ (4 ≤ n → acc = accP V c (n / 4))

/-- The invariant before point `n`. -/
def Phi0 (c : Dev nD) (n : ℕ) : sProp 𝕄 :=
  iprop((∃ (mn : Vec F S256x1 .f32) (ai : Vec F S256x1 .i32) (acc : Vec F S1x1 .f32), ⌜Inv0 V c n mn ai acc⌝
    ∗ owns (c : Thread nD τ) scM0_0 fullShare mn ∗ owns (c : Thread nD τ) scM0_1 fullShare ai ∗ owns (c : Thread nD τ) scM0_2 fullShare acc)
    ∗ rest0 (F := F) c ∗ (∃ r, prngReg c r))

/-- The proof data of the first region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (F := F) (scr V c t.val).2
    | ⟨5, _⟩ => k0_pay6 (BitVec.ofNat 32 (grid0.coords t 0).val) (scr V c t.val).1 (accP V c (t.val / 4))
  Φ t := Phi0 V c t.val
  q _ := fullShare
  owed _ := 0

/-- The arrays of the first launch hold what the memory holds. -/
theorem A0_eq (c : Dev nD) (w : Fin cfg0.W) : (dat0 V c).A w = V c (Pipeline.arrRef spec0 w) := by
  dsimp only [dat0]

/-- What a step leaves in the block of the squared lengths of the points. -/
theorem after0_0 (c : Dev nD) (t : Fin cfg0.N) : (dat0 V c).after 0 t = iblk0 V c 0 t := by dsimp only [dat0]
/-- What a step leaves in the block of the squared lengths of the codewords. -/
theorem after0_1 (c : Dev nD) (t : Fin cfg0.N) : (dat0 V c).after 1 t = iblk0 V c 1 t := by dsimp only [dat0]
/-- What a step leaves in the block of the points. -/
theorem after0_2 (c : Dev nD) (t : Fin cfg0.N) : (dat0 V c).after 2 t = iblk0 V c 2 t := by dsimp only [dat0]
/-- What a step leaves in the block of the codewords. -/
theorem after0_3 (c : Dev nD) (t : Fin cfg0.N) : (dat0 V c).after 3 t = iblk0 V c 3 t := by dsimp only [dat0]
/-- What a step leaves in the block of the codes. -/
theorem after0_4 (c : Dev nD) (t : Fin cfg0.N) : (dat0 V c).after 4 t = k0_pay3 (F := F) (scr V c t.val).2 := by dsimp only [dat0]
/-- What a step leaves in the block of the loss. -/
theorem after0_5 (c : Dev nD) (t : Fin cfg0.N) : (dat0 V c).after 5 t
    = k0_pay6 (BitVec.ofNat 32 (grid0.coords t 0).val) (scr V c t.val).1 (accP V c (t.val / 4)) := by dsimp only [dat0]

/-- Input window 0's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
/-- Input window 1's staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
/-- Input window 2's staging buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
/-- Input window 3's staging buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- No step skips the squared lengths of the points. -/
theorem liveAt0_0 : ∀ t : Fin cfg0.N, cfg0.idle 0 (grid0.coords t) = false := fun _ => rfl
/-- No step skips the squared lengths of the codewords. -/
theorem liveAt0_1 : ∀ t : Fin cfg0.N, cfg0.idle 1 (grid0.coords t) = false := fun _ => rfl
/-- No step skips the points. -/
theorem liveAt0_2 : ∀ t : Fin cfg0.N, cfg0.idle 2 (grid0.coords t) = false := fun _ => rfl
/-- No step skips the codewords. -/
theorem liveAt0_3 : ∀ t : Fin cfg0.N, cfg0.idle 3 (grid0.coords t) = false := fun _ => rfl
/-- A step owns its block of the squared lengths of the points at its end. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
/-- A step owns its block of the squared lengths of the codewords at its end. -/
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
/-- A step owns its block of the points at its end. -/
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
/-- A step owns its block of the codewords at its end. -/
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

/-- An output's buffer is handed back as found where the block column is not the last. -/
theorem leaves0_idle4 (c : Dev nD) (t : Fin cfg0.N) (h : ¬t.val % 4 = 3) :
    (dat0 V c).leavesExact 4 t = iprop(∃ d, owns (c : Thread nD τ) (ms0_4 t) fullShare ((dat0 V c).before 4 t d)) :=
  (dat0 V c).leavesExact_idle 4 t
    (show (!(k0_cond2 (grid0.coords t) == 1#1)) = true by
      rw [Bool.not_eq_true', beq_eq_false_iff_ne]; exact fun e => h ((hlast0 t).mp e))
    (Bool.eq_false_iff.mpr fun e => h ((flush0_4 t).mp e))
/-- The loss is left alone before the last block of codewords. -/
theorem leaves0_idle5 (c : Dev nD) (t : Fin cfg0.N) (h : ¬t.val % 4 = 3) :
    (dat0 V c).leavesExact 5 t = iprop(∃ d, owns (c : Thread nD τ) (ms0_5 t) fullShare ((dat0 V c).before 5 t d)) :=
  (dat0 V c).leavesExact_idle 5 t
    (show (!(k0_cond2 (grid0.coords t) == 1#1)) = true by
      rw [Bool.not_eq_true', beq_eq_false_iff_ne]; exact fun e => h ((hlast0 t).mp e))
    (Bool.eq_false_iff.mpr fun e => h (by have := (flush0_5 t).mp e; omega))
/-- It holds what the body stored where the block column is the last. -/
theorem leaves0_live4 (c : Dev nD) (t : Fin cfg0.N) (h : t.val % 4 = 3) :
    (dat0 V c).leavesExact 4 t = owns (c : Thread nD τ) (ms0_4 t) fullShare (k0_pay3 (F := F) (scr V c t.val).2) := by
  unfold Dat.leavesExact
  rw [show cfg0.idle 4 (cfg0.grid.coords t) = false from
    show (!(k0_cond2 (grid0.coords t) == 1#1)) = false by rw [(hlast0 t).mpr h]; rfl, after0_4]
/-- The loss is written at the last block of codewords. -/
theorem leaves0_live5 (c : Dev nD) (t : Fin cfg0.N) (h : t.val % 4 = 3) :
    (dat0 V c).leavesExact 5 t = owns (c : Thread nD τ) (ms0_5 t) fullShare
      (k0_pay6 (BitVec.ofNat 32 (grid0.coords t 0).val) (scr V c t.val).1 (accP V c (t.val / 4))) := by
  unfold Dat.leavesExact
  rw [show cfg0.idle 5 (cfg0.grid.coords t) = false from
    show (!(k0_cond2 (grid0.coords t) == 1#1)) = false by rw [(hlast0 t).mpr h]; rfl, after0_5]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

/-- What a first step leaves in the scratch is the invariant of the next. -/
theorem inv0_first (c : Dev nD) (t : Fin cfg0.N) (h : t.val % 4 = 0) (mn : Vec F S256x1 .f32) (ai : Vec F S256x1 .i32)
    (acc : Vec F S1x1 .f32) (hi : Inv0 V c t.val mn ai acc) :
    Inv0 V c (t.val + 1)
      (k0_pay2 (k0_pay10 (iblk0 V c 2 t) (iblk0 V c 3 t) (iblk0 V c 0 t) (iblk0 V c 1 t))
        (k0_pay11 (iblk0 V c 2 t) (iblk0 V c 3 t) (iblk0 V c 0 t) (iblk0 V c 1 t) (k0_pay7 (F := F))) (k0_pay7 (F := F)))
      (k0_pay1 (k0_pay12 (grid0.coords t) (iblk0 V c 2 t) (iblk0 V c 3 t) (iblk0 V c 0 t) (iblk0 V c 1 t) (k0_pay7 (F := F)) k0_pay8)) acc := by
  refine ⟨fun _ => ?_, fun h4 => ?_⟩
  · rw [Nat.add_sub_cancel, scr_first V c _ h]; unfold step0; rw [pt0_val]; exact ⟨rfl, rfl⟩
  · rw [hi.2 (by omega), show (t.val + 1) / 4 = t.val / 4 by omega]

/-- A later step, with the scratch it finds, gives the running minimum of its number. -/
theorem scr_next_eq (c : Dev nD) (t : Fin cfg0.N) (h : ¬t.val % 4 = 0) (mn : Vec F S256x1 .f32) (ai : Vec F S256x1 .i32)
    (acc : Vec F S1x1 .f32) (hi : Inv0 V c t.val mn ai acc) :
    (k0_pay2 (k0_pay10 (iblk0 V c 2 t) (iblk0 V c 3 t) (iblk0 V c 0 t) (iblk0 V c 1 t))
        (k0_pay11 (iblk0 V c 2 t) (iblk0 V c 3 t) (iblk0 V c 0 t) (iblk0 V c 1 t) mn) mn) = (scr V c t.val).1
    ∧ (k0_pay1 (k0_pay12 (grid0.coords t) (iblk0 V c 2 t) (iblk0 V c 3 t) (iblk0 V c 0 t) (iblk0 V c 1 t) mn ai)) = (scr V c t.val).2 := by
  obtain ⟨h1, h2⟩ := hi.1 h
  rw [scr_next V c _ h]; unfold step0; rw [pt0_val, h1, h2]; exact ⟨rfl, rfl⟩

/-- What a middle step leaves in the scratch is the invariant of the next. -/
theorem inv0_next (c : Dev nD) (t : Fin cfg0.N) (h : ¬t.val % 4 = 0) (h3 : ¬t.val % 4 = 3) (mn : Vec F S256x1 .f32) (ai : Vec F S256x1 .i32)
    (acc : Vec F S1x1 .f32) (hi : Inv0 V c t.val mn ai acc) :
    Inv0 V c (t.val + 1) (scr V c t.val).1 (scr V c t.val).2 acc := by
  refine ⟨fun _ => ?_, fun h4 => ?_⟩
  · rw [Nat.add_sub_cancel]; exact ⟨rfl, rfl⟩
  · rw [hi.2 (by omega), show (t.val + 1) / 4 = t.val / 4 by omega]

/-- In the first four steps the block of points is the first. -/
theorem ofNat_coord_zero (t : Fin cfg0.N) (h : ¬4 ≤ t.val) : BitVec.ofNat 32 (grid0.coords t 0).val = 0#32 := by
  rw [coords0_0, show t.val / 4 = 0 by omega]

/-- The stored sum at a last step is that of its block of points. -/
theorem pay5_acc (c : Dev nD) (t : Fin cfg0.N) (mn : Vec F S256x1 .f32) (ai : Vec F S256x1 .i32)
    (acc : Vec F S1x1 .f32) (hi : Inv0 V c t.val mn ai acc) (v : Vec F S256x1 .f32) :
    k0_pay5 (BitVec.ofNat 32 (grid0.coords t 0).val) v acc = k0_pay5 (BitVec.ofNat 32 (grid0.coords t 0).val) v (accP V c (t.val / 4)) := by
  by_cases h : 4 ≤ t.val
  · rw [hi.2 h]
  · exact pay5_zero _ _ _ _ (ofNat_coord_zero t h)

/-- The scaled sum at a last step is that of its block of points. -/
theorem pay6_acc (c : Dev nD) (t : Fin cfg0.N) (mn : Vec F S256x1 .f32) (ai : Vec F S256x1 .i32)
    (acc : Vec F S1x1 .f32) (hi : Inv0 V c t.val mn ai acc) (v : Vec F S256x1 .f32) :
    k0_pay6 (BitVec.ofNat 32 (grid0.coords t 0).val) v acc = k0_pay6 (BitVec.ofNat 32 (grid0.coords t 0).val) v (accP V c (t.val / 4)) := by
  by_cases h : 4 ≤ t.val
  · rw [hi.2 h]
  · exact pay6_zero _ _ _ _ (ofNat_coord_zero t h)

/-- What a last step leaves in the scratch is the invariant of the next. -/
theorem inv0_last (c : Dev nD) (t : Fin cfg0.N) (h3 : t.val % 4 = 3) (mn : Vec F S256x1 .f32) (ai : Vec F S256x1 .i32) :
    Inv0 V c (t.val + 1) mn ai (k0_pay5 (BitVec.ofNat 32 (grid0.coords t 0).val) (scr V c t.val).1 (accP V c (t.val / 4))) := by
  refine ⟨fun h => absurd (by omega) h, fun _ => ?_⟩
  rw [show (t.val + 1) / 4 = t.val / 4 + 1 by omega, accP, coords0_0, show 4 * (t.val / 4) + 3 = t.val by omega]

set_option maxHeartbeats 12800000 in
/-- The body at any point of the first region. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = Phi0 V c (t.val + 1) from rfl, show (dat0 V c).Φ t.castSucc = Phi0 V c t.val from rfl,
    leaves0_0, leaves0_1, leaves0_2, leaves0_3]
  unfold Phi0
  by_cases h3 : t.val % 4 = 3
  · have h0 : ¬t.val % 4 = 0 := by omega
    rw [leaves0_live4 V c t h3, leaves0_live5 V c t h3]
    iintro ⟨⟨⟨%mn, %ai, %acc, %hi, S0, S1, S2⟩, Hr, Hg⟩, Ho, ⟨%d0, H0⟩, ⟨%d1, H1⟩, ⟨%d2, H2⟩, ⟨%d3, H3⟩, ⟨%d4, H4⟩, ⟨%d5, H5⟩⟩
    iapply (run0_C c (grid0.coords t) _ (hs0_0 t) _ (hs0_1 t) _ (hs0_2 t) _ (hs0_3 t) _ (hs0_4 t) _ (hs0_5 t) _ (Memref.isWhole_whole _) _ (Memref.isWhole_whole _) _ (Memref.isWhole_whole _) (fun h => h0 ((hfirst0 t).mp h)) ((hlast0 t).mpr h3)
      (iblk0 V c 0 t) (iblk0 V c 1 t) (iblk0 V c 2 t) (iblk0 V c 3 t) _ _ mn ai acc Set.univ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    rw [(scr_next_eq V c t h0 mn ai acc hi).1, (scr_next_eq V c t h0 mn ai acc hi).2, pay5_acc V c t mn ai acc hi, pay6_acc V c t mn ai acc hi]
    isplitl [S0 S1 S2 Hr Hg]
    · isplitl [S0 S1 S2]
      · iexists _, _, _
        isplitr; · ipureintro; exact inv0_last V c t h3 (scr V c t.val).1 (scr V c t.val).2
        isplitl [S0]; · iexact S0
        isplitl [S1]; · iexact S1
        iexact S2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [leaves0_idle4 V c t h3, leaves0_idle5 V c t h3]
    by_cases h0 : t.val % 4 = 0
    · iintro ⟨⟨⟨%mn, %ai, %acc, %hi, S0, S1, S2⟩, Hr, Hg⟩, Ho, ⟨%d0, H0⟩, ⟨%d1, H1⟩, ⟨%d2, H2⟩, ⟨%d3, H3⟩, ⟨%d4, H4⟩, ⟨%d5, H5⟩⟩
      iapply (run0_A c (grid0.coords t) _ (hs0_0 t) _ (hs0_1 t) _ (hs0_2 t) _ (hs0_3 t) _ (hs0_4 t) _ (hs0_5 t) _ (Memref.isWhole_whole _) _ (Memref.isWhole_whole _) _ (Memref.isWhole_whole _) ((hfirst0 t).mpr h0) (fun h => h3 ((hlast0 t).mp h))
        (iblk0 V c 0 t) (iblk0 V c 1 t) (iblk0 V c 2 t) (iblk0 V c 3 t) _ _ mn ai acc Set.univ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iintro ⟨H0, H1, H2, H3, H4, H5, S0, S1, S2⟩
      isplitl [S0 S1 S2 Hr Hg]
      · isplitl [S0 S1 S2]
        · iexists _, _, _
          isplitr; · ipureintro; exact inv0_first V c t h0 mn ai acc hi
          isplitl [S0]; · iexact S0
          isplitl [S1]; · iexact S1
          iexact S2
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · iintro ⟨⟨⟨%mn, %ai, %acc, %hi, S0, S1, S2⟩, Hr, Hg⟩, Ho, ⟨%d0, H0⟩, ⟨%d1, H1⟩, ⟨%d2, H2⟩, ⟨%d3, H3⟩, ⟨%d4, H4⟩, ⟨%d5, H5⟩⟩
      iapply (run0_B c (grid0.coords t) _ (hs0_0 t) _ (hs0_1 t) _ (hs0_2 t) _ (hs0_3 t) _ (hs0_4 t) _ (hs0_5 t) _ (Memref.isWhole_whole _) _ (Memref.isWhole_whole _) _ (Memref.isWhole_whole _) (fun h => h0 ((hfirst0 t).mp h)) (fun h => h3 ((hlast0 t).mp h))
        (iblk0 V c 0 t) (iblk0 V c 1 t) (iblk0 V c 2 t) (iblk0 V c 3 t) _ _ mn ai acc Set.univ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iintro ⟨H0, H1, H2, H3, H4, H5, S0, S1, S2⟩
      rw [(scr_next_eq V c t h0 mn ai acc hi).1, (scr_next_eq V c t h0 mn ai acc hi).2]
      isplitl [S0 S1 S2 Hr Hg]
      · isplitl [S0 S1 S2]
        · iexists _, _, _
          isplitr; · ipureintro; exact inv0_next V c t h0 h3 mn ai acc hi
          isplitl [S0]; · iexact S0
          isplitl [S1]; · iexact S1
          iexact S2
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation for the first region. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-- What the launch hands the region gives the invariant before the first point. -/
theorem hin0 (c : Dev nD) : iprop(Pipeline.scopedRest (Ix := Unit) (Name := ℕ) (U := UR sig nD τ) (Lvl := ℕ) (Val := Elt F) spec0 c ∗ (∃ r, prngReg c r)) ⊢ (dat0 V c).Φ 0 := by
  rw [show (dat0 V c).Φ 0 = Phi0 V c 0 from rfl, scopedRest0_eq]
  unfold Phi0 rest0
  simp only [scM0_0, scM0_1, scM0_2, owns_whole]
  iintro ⟨⟨⟨%f0, S0⟩, ⟨%f1, S1⟩, ⟨%f2, S2⟩, Hr⟩, Hg⟩
  isplitl [S0 S1 S2]
  · iexists f0, f1, f2
    isplitr; · ipureintro; exact ⟨fun h => absurd rfl h, fun h => absurd h (by decide)⟩
    isplitl [S0]; · iexact S0
    isplitl [S1]; · iexact S1
    iexact S2
  isplitl [Hr]; · iexact Hr
  iexact Hg

/-- After the last point the invariant gives it back. -/
theorem hout0 (c : Dev nD) : (dat0 V c).Φ (Fin.last cfg0.N) ⊢ iprop(Pipeline.scopedRest (Ix := Unit) (Name := ℕ) (U := UR sig nD τ) (Lvl := ℕ) (Val := Elt F) spec0 c ∗ (∃ r, prngReg c r)) := by
  rw [show (dat0 V c).Φ (Fin.last cfg0.N) = Phi0 V c cfg0.N from rfl, scopedRest0_eq]
  unfold Phi0 rest0
  simp only [scM0_0, scM0_1, scM0_2, owns_whole]
  iintro ⟨⟨%mn, %ai, %acc, -, S0, S1, S2⟩, Hr, Hg⟩
  isplitl [S0 S1 S2 Hr]
  · isplitl [S0]; · iexists _; iexact S0
    isplitl [S1]; · iexists _; iexact S1
    isplitl [S2]; · iexists _; iexact S2
    iexact Hr
  iexact Hg

end Cert.KernelIdeal.Hand

end
-- ==== Proof.Run1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.RegionArraysS
public import Idealize.ShloMosaic.Lib.Ring
public import Idealize.ShloMosaic.Lib.Tactic
public import Idealize.ShloMosaic.Lib.WordCmp
public import proofs.«01_k».proof.Proof.Run0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The second kernel's body before the last point: the one-hot rows and the selected rows are stored, the counts move on. -/
theorem run1_A (c : Dev nD) (i : grid1.Coords) (arg1 : Memref sig .tc .vmem S1x1x128 .i32) (harg1 : arg1.IsWhole) (arg2 : Memref sig .tc .vmem S8192x256 .f32) (harg2 : arg2.IsWhole) (arg3 : Memref sig .tc .vmem S128x8192 .f32) (harg3 : arg3.IsWhole) (arg4 : Memref sig .tc .vmem S128x256 .f32) (harg4 : arg4.IsWhole) (arg5 : Memref sig .tc .vmem S1x1 .f32) (harg5 : arg5.IsWhole) (arg6 : Memref sig .tc .vmem S1x8192 .f32) (harg6 : arg6.IsWhole) (hc0 : ¬k1_cond1 i = 1#1)
    (x0 : Vec F S1x1x128 .i32) (x1 : Vec F S8192x256 .f32) (y2 : Vec F S128x8192 .f32) (y3 : Vec F S128x256 .f32) (y4 : Vec F S1x1 .f32) (cnt : Vec F S1x8192 .f32) (E : Set ℕ) (K : PUnit → sProp 𝕄) :
    iprop(owns (c : Thread nD τ) arg1 fullShare (x0)
      ∗ owns (c : Thread nD τ) arg2 fullShare (x1)
      ∗ owns (c : Thread nD τ) arg3 fullShare (y2)
      ∗ owns (c : Thread nD τ) arg4 fullShare (y3)
      ∗ owns (c : Thread nD τ) arg5 fullShare (y4)
      ∗ owns (c : Thread nD τ) arg6 fullShare (cnt)
      ∗ (iprop(owns (c : Thread nD τ) arg1 fullShare (x0)
          ∗ owns (c : Thread nD τ) arg2 fullShare (x1)
          ∗ owns (c : Thread nD τ) arg3 fullShare (k1_pay1 x0)
          ∗ owns (c : Thread nD τ) arg4 fullShare (k1_pay2 x0 x1)
          ∗ owns (c : Thread nD τ) arg5 fullShare (y4)
          ∗ owns (c : Thread nD τ) arg6 fullShare (k1_pay4 i x0 cnt)) -∗ K ⟨⟩))
    ⊢ wp frame (wpE (defs₀ (F := F)) Variants.none c none) E (cc1__onehot_body i arg1 harg1 arg2 harg2 arg3 harg3 arg4 harg4 arg5 harg5 arg6 harg6) K := by
  simp only [cc1__onehot_body_eq_skeleton]; unfold cc1__onehot_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    try sl_unfold_words
    dsimp only
    rw [read_store (S := S128x8192) _ _ hz2]
    simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H3]
  · iexists _; isplitr; swap; · iexact H3
    ipureintro
    try sl_unfold_words
    dsimp only
    rw [read_store (S := S128x256) _ _ hz2]
    simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H4]
  · iexists _; isplitr; · ipureintro; exact harg5.read_unread _
    iexact H4
  iexists _; isplitr; swap; · iexact H5
  ipureintro
  try sl_unfold_words
  dsimp only
  rw [read_store (S := S1x8192) _ _ hz2]
  simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]

set_option maxHeartbeats 1000000 in
/-- The second kernel's body at the last point: it stores the perplexity as well. -/
theorem run1_B (c : Dev nD) (i : grid1.Coords) (arg1 : Memref sig .tc .vmem S1x1x128 .i32) (harg1 : arg1.IsWhole) (arg2 : Memref sig .tc .vmem S8192x256 .f32) (harg2 : arg2.IsWhole) (arg3 : Memref sig .tc .vmem S128x8192 .f32) (harg3 : arg3.IsWhole) (arg4 : Memref sig .tc .vmem S128x256 .f32) (harg4 : arg4.IsWhole) (arg5 : Memref sig .tc .vmem S1x1 .f32) (harg5 : arg5.IsWhole) (arg6 : Memref sig .tc .vmem S1x8192 .f32) (harg6 : arg6.IsWhole) (hc0 : k1_cond1 i = 1#1)
    (x0 : Vec F S1x1x128 .i32) (x1 : Vec F S8192x256 .f32) (y2 : Vec F S128x8192 .f32) (y3 : Vec F S128x256 .f32) (y4 : Vec F S1x1 .f32) (cnt : Vec F S1x8192 .f32) (E : Set ℕ) (K : PUnit → sProp 𝕄) :
    iprop(owns (c : Thread nD τ) arg1 fullShare (x0)
      ∗ owns (c : Thread nD τ) arg2 fullShare (x1)
      ∗ owns (c : Thread nD τ) arg3 fullShare (y2)
      ∗ owns (c : Thread nD τ) arg4 fullShare (y3)
      ∗ owns (c : Thread nD τ) arg5 fullShare (y4)
      ∗ owns (c : Thread nD τ) arg6 fullShare (cnt)
      ∗ (iprop(owns (c : Thread nD τ) arg1 fullShare (x0)
          ∗ owns (c : Thread nD τ) arg2 fullShare (x1)
          ∗ owns (c : Thread nD τ) arg3 fullShare (k1_pay1 x0)
          ∗ owns (c : Thread nD τ) arg4 fullShare (k1_pay2 x0 x1)
          ∗ owns (c : Thread nD τ) arg5 fullShare (k1_pay5 i x0 cnt)
          ∗ owns (c : Thread nD τ) arg6 fullShare (k1_pay4 i x0 cnt)) -∗ K ⟨⟩))
    ⊢ wp frame (wpE (defs₀ (F := F)) Variants.none c none) E (cc1__onehot_body i arg1 harg1 arg2 harg2 arg3 harg3 arg4 harg4 arg5 harg5 arg6 harg6) K := by
  simp only [cc1__onehot_body_eq_skeleton]; unfold cc1__onehot_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    try sl_unfold_words
    dsimp only
    rw [read_store (S := S128x8192) _ _ hz2]
    simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H3]
  · iexists _; isplitr; swap; · iexact H3
    ipureintro
    try sl_unfold_words
    dsimp only
    rw [read_store (S := S128x256) _ _ hz2]
    simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  isplitl [H4]
  · iexists _; isplitr; swap; · iexact H4
    ipureintro
    try sl_unfold_words
    dsimp only
    rw [read_store (S := S1x1) _ _ hz2]
    simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]
  iexists _; isplitr; swap; · iexact H5
  ipureintro
  try sl_unfold_words
  dsimp only
  rw [read_store (S := S1x8192) _ _ hz2]
  simp only [View.readAt_eq_ld, View.readCov_unit_zero (S := S256x1) _ hz2, harg1.read_unread, harg2.read_unread, harg3.read_unread, harg4.read_unread, harg5.read_unread, harg6.read_unread, View.ld_unit_zero (S := S256x1) hz2, View.ld_unit_zero (S := S1x2048) hz2, View.ld_unit_zero (S := S256x256) hz2, View.ld_unit_zero (S := S2048x256) hz2, View.ld_unit_zero (S := S1x1) hz2, View.ld_unit_zero (S := S1x1x128) hz3, View.ld_unit_zero (S := S8192x256) hz2, View.ld_unit_zero (S := S1x8192) hz2]

end Cert.KernelIdeal.Hand

end
-- ==== Proof.Body1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.RegionArraysS
public import Idealize.ShloMosaic.Lib.Ring
public import Idealize.ShloMosaic.Lib.Tactic
public import Idealize.ShloMosaic.Lib.WordCmp
public import proofs.«01_k».proof.Proof.Run1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The second region: one-hot rows, selected rows, counts -/

/-- The second launch has 32 steps. -/
theorem N1_eq : cfg1.N = 32 := N_1

/-- Point `k` of the grid, wrapped round. -/
def pt1 (k : ℕ) : Fin cfg1.N := ⟨k % 32, by rw [N1_eq]; omega⟩

/-- The step of a step number is the step itself. -/
theorem pt1_val (t : Fin cfg1.N) : pt1 t.val = t :=
  Fin.ext (Nat.mod_eq_of_lt (lt_of_lt_of_eq t.isLt N1_eq))

/-- The block of rows at a step is the step. -/
theorem coords1_0 (t : Fin cfg1.N) : (grid1.coords t 0).val = t.val := by
  have ht : t.val < 32 := Nat.lt_of_lt_of_eq t.isLt N_1
  have e0 : (grid1.coords t 0).val = t.val / 1 % 32 := Pipeline.Grid.coords_val t 0 (by decide) rfl
  rw [e0]; omega

/-- The branch is taken at the last point. -/
theorem hlast1 (t : Fin cfg1.N) : k1_cond1 (grid1.coords t) = 1#1 ↔ t.val = 31 := by
  have ht : t.val < 32 := Nat.lt_of_lt_of_eq t.isLt N_1
  simp only [k1_cond1, coords1_0]
  word_cmp

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The counts over the points before point `k`. -/
def cntP (c : Dev nD) : ℕ → Vec F S1x8192 .f32
  | 0 => broadcast S1x8192 (Scalar.ofBits .f32 0x00000000#32)
  | k + 1 => k1_pay4 (grid1.coords (pt1 k)) (iblk1 V c 0 (pt1 k)) (cntP c k)

/-- At the first point the counts do not read what the scratch held. -/
theorem pay3_zero (i : grid1.Coords) (hx : BitVec.ofNat 32 (i 0).val = 0#32) (v : Vec F S1x1x128 .i32) (a b : Vec F S1x8192 .f32) :
    k1_pay3 i v a = k1_pay3 i v b := by
  unfold k1_pay3; dsimp only; rw [hx]; rfl

/-- At the first block of rows the counts do not look at what was stored before. -/
theorem cnt_zero (i : grid1.Coords) (hx : BitVec.ofNat 32 (i 0).val = 0#32) (v : Vec F S1x1x128 .i32) (a b : Vec F S1x8192 .f32) :
    k1_pay4 i v a = k1_pay4 i v b ∧ k1_pay5 i v a = k1_pay5 i v b := by
  unfold k1_pay4 k1_pay5; rw [pay3_zero i hx v a b]; exact ⟨rfl, rfl⟩

/-- Window 0's current staging memref at a point. -/
abbrev ms1_0 (t : Fin cfg1.N) : Memref sig .tc .vmem S1x1x128 .i32 := win1_0.stage (cfg1.slots t 0)
/-- The staging buffer for the codes is a whole buffer. -/
abbrev hs1_0 (t : Fin cfg1.N) : (ms1_0 t).IsWhole := hstage1_0 ((cfg1.slots t 0).cast nbuf1_0)
/-- Window 1's current staging memref at a point. -/
abbrev ms1_1 (t : Fin cfg1.N) : Memref sig .tc .vmem S8192x256 .f32 := win1_1.stage (cfg1.slots t 1)
/-- The staging buffer for the codewords is a whole buffer. -/
abbrev hs1_1 (t : Fin cfg1.N) : (ms1_1 t).IsWhole := hstage1_1 ((cfg1.slots t 1).cast nbuf1_1)
/-- Window 2's current staging memref at a point. -/
abbrev ms1_2 (t : Fin cfg1.N) : Memref sig .tc .vmem S128x8192 .f32 := win1_2.stage (cfg1.slots t 2)
/-- The staging buffer for the one-hot rows is a whole buffer. -/
abbrev hs1_2 (t : Fin cfg1.N) : (ms1_2 t).IsWhole := hstage1_2 ((cfg1.slots t 2).cast nbuf1_2)
/-- Window 3's current staging memref at a point. -/
abbrev ms1_3 (t : Fin cfg1.N) : Memref sig .tc .vmem S128x256 .f32 := win1_3.stage (cfg1.slots t 3)
/-- The staging buffer for the quantised rows is a whole buffer. -/
abbrev hs1_3 (t : Fin cfg1.N) : (ms1_3 t).IsWhole := hstage1_3 ((cfg1.slots t 3).cast nbuf1_3)
/-- Window 4's current staging memref at a point. -/
abbrev ms1_4 (t : Fin cfg1.N) : Memref sig .tc .vmem S1x1 .f32 := win1_4.stage (cfg1.slots t 4)
/-- The staging buffer for the perplexity is a whole buffer. -/
abbrev hs1_4 (t : Fin cfg1.N) : (ms1_4 t).IsWhole := hstage1_4 ((cfg1.slots t 4).cast nbuf1_4)
/-- The scratch for the counts. -/
abbrev scM1_0 : Memref sig .tc .vmem S1x8192 .f32 := Memref.whole cc1_scratch0

/-- The scoped buffers that the second region does not touch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The invariant before point `n`. -/
def Phi1 (c : Dev nD) (n : ℕ) : sProp 𝕄 :=
  iprop((∃ cnt : Vec F S1x8192 .f32, ⌜1 ≤ n → cnt = cntP V c n⌝ ∗ owns (c : Thread nD τ) scM1_0 fullShare cnt)
    ∗ rest1 (F := F) c ∗ (∃ r, prngReg c r))

/-- The proof data of the second region. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t)
    | ⟨3, _⟩ => k1_pay2 (iblk1 V c 0 t) (iblk1 V c 1 t)
    | ⟨4, _⟩ => k1_pay5 (grid1.coords t) (iblk1 V c 0 t) (cntP V c t.val)
  Φ t := Phi1 V c t.val
  q _ := fullShare
  owed _ := 0

/-- The arrays of the second launch hold what the memory holds. -/
theorem A1_eq (c : Dev nD) (w : Fin cfg1.W) : (dat1 V c).A w = V c (Pipeline.arrRef spec1 w) := by
  dsimp only [dat1]

/-- What a step leaves in the block of the codes. -/
theorem after1_0 (c : Dev nD) (t : Fin cfg1.N) : (dat1 V c).after 0 t = iblk1 V c 0 t := by dsimp only [dat1]
/-- What a step leaves in the block of the codewords. -/
theorem after1_1 (c : Dev nD) (t : Fin cfg1.N) : (dat1 V c).after 1 t = iblk1 V c 1 t := by dsimp only [dat1]
/-- What a step leaves in the block of the one-hot rows. -/
theorem after1_2 (c : Dev nD) (t : Fin cfg1.N) : (dat1 V c).after 2 t = k1_pay1 (iblk1 V c 0 t) := by dsimp only [dat1]
/-- What a step leaves in the block of the quantised rows. -/
theorem after1_3 (c : Dev nD) (t : Fin cfg1.N) : (dat1 V c).after 3 t = k1_pay2 (iblk1 V c 0 t) (iblk1 V c 1 t) := by dsimp only [dat1]
/-- What a step leaves in the block of the perplexity. -/
theorem after1_4 (c : Dev nD) (t : Fin cfg1.N) : (dat1 V c).after 4 t = k1_pay5 (grid1.coords t) (iblk1 V c 0 t) (cntP V c t.val) := by dsimp only [dat1]

/-- Input window 0's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
/-- Input window 1's staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-- No step skips the codes. -/
theorem liveAt1_0 : ∀ t : Fin cfg1.N, cfg1.idle 0 (grid1.coords t) = false := fun _ => rfl
/-- No step skips the codewords. -/
theorem liveAt1_1 : ∀ t : Fin cfg1.N, cfg1.idle 1 (grid1.coords t) = false := fun _ => rfl
/-- No step skips the one-hot rows. -/
theorem liveAt1_2 : ∀ t : Fin cfg1.N, cfg1.idle 2 (grid1.coords t) = false := fun _ => rfl
/-- No step skips the quantised rows. -/
theorem liveAt1_3 : ∀ t : Fin cfg1.N, cfg1.idle 3 (grid1.coords t) = false := fun _ => rfl
/-- A step owns its block of the codes at its end. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
/-- A step owns its block of the codewords at its end. -/
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
/-- A step owns its block of the one-hot rows at its end. -/
theorem leaves1_2 (c : Dev nD) (t : Fin cfg1.N) : (dat1 V c).leavesExact 2 t = owns (c : Thread nD τ) (ms1_2 t) fullShare (k1_pay1 (iblk1 V c 0 t)) := by
  unfold Dat.leavesExact; rw [liveAt1_2 t, after1_2]
/-- A step owns its block of the quantised rows at its end. -/
theorem leaves1_3 (c : Dev nD) (t : Fin cfg1.N) : (dat1 V c).leavesExact 3 t = owns (c : Thread nD τ) (ms1_3 t) fullShare (k1_pay2 (iblk1 V c 0 t) (iblk1 V c 1 t)) := by
  unfold Dat.leavesExact; rw [liveAt1_3 t, after1_3]

/-- The perplexity's buffer is handed back as found before the last point. -/
theorem leaves1_idle4 (c : Dev nD) (t : Fin cfg1.N) (h : ¬t.val = 31) :
    (dat1 V c).leavesExact 4 t = iprop(∃ d, owns (c : Thread nD τ) (ms1_4 t) fullShare ((dat1 V c).before 4 t d)) :=
  (dat1 V c).leavesExact_idle 4 t
    (show (!(k1_cond1 (grid1.coords t) == 1#1)) = true by
      rw [Bool.not_eq_true', beq_eq_false_iff_ne]; exact fun e => h ((hlast1 t).mp e))
    (Bool.eq_false_iff.mpr fun e => h (by have := (flush1_4 t).mp e; have := lt_of_lt_of_eq t.isLt N1_eq; omega))
/-- The perplexity is written at the last block of rows. -/
theorem leaves1_live4 (c : Dev nD) (t : Fin cfg1.N) (h : t.val = 31) :
    (dat1 V c).leavesExact 4 t = owns (c : Thread nD τ) (ms1_4 t) fullShare (k1_pay5 (grid1.coords t) (iblk1 V c 0 t) (cntP V c t.val)) := by
  unfold Dat.leavesExact
  rw [show cfg1.idle 4 (cfg1.grid.coords t) = false from
    show (!(k1_cond1 (grid1.coords t) == 1#1)) = false by rw [(hlast1 t).mpr h]; rfl, after1_4]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

/-- The counts after point `t`, whatever the scratch held before the first. -/
theorem cnt_next (c : Dev nD) (t : Fin cfg1.N) (cnt : Vec F S1x8192 .f32) (hi : 1 ≤ t.val → cnt = cntP V c t.val) :
    k1_pay4 (grid1.coords t) (iblk1 V c 0 t) cnt = cntP V c (t.val + 1)
    ∧ k1_pay5 (grid1.coords t) (iblk1 V c 0 t) cnt = k1_pay5 (grid1.coords t) (iblk1 V c 0 t) (cntP V c t.val) := by
  rw [cntP, pt1_val]
  by_cases h : 1 ≤ t.val
  · rw [hi h]; exact ⟨rfl, rfl⟩
  · exact cnt_zero _ (by rw [coords1_0, show t.val = 0 by omega]) _ _ _

set_option maxHeartbeats 12800000 in
/-- The body at any point of the second region. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Phi1 V c (t.val + 1) from rfl, show (dat1 V c).Φ t.castSucc = Phi1 V c t.val from rfl,
    leaves1_0, leaves1_1, leaves1_2, leaves1_3]
  unfold Phi1
  by_cases h3 : t.val = 31
  · rw [leaves1_live4 V c t h3]
    iintro ⟨⟨⟨%cnt, %hi, S0⟩, Hr, Hg⟩, Ho, ⟨%d0, H0⟩, ⟨%d1, H1⟩, ⟨%d2, H2⟩, ⟨%d3, H3⟩, ⟨%d4, H4⟩⟩
    iapply (run1_B c (grid1.coords t) _ (hs1_0 t) _ (hs1_1 t) _ (hs1_2 t) _ (hs1_3 t) _ (hs1_4 t) _ (Memref.isWhole_whole _) ((hlast1 t).mpr h3)
      (iblk1 V c 0 t) (iblk1 V c 1 t) _ _ _ cnt Set.univ _)
    isplitl [H0]; · iexact H0
    isplitl [H1]; · iexact H1
    isplitl [H2]; · iexact H2
    isplitl [H3]; · iexact H3
    isplitl [H4]; · iexact H4
    isplitl [S0]; · iexact S0
    iintro ⟨H0, H1, H2, H3, H4, S0⟩
    rw [(cnt_next V c t cnt hi).1, (cnt_next V c t cnt hi).2]
    isplitl [S0 Hr Hg]
    · isplitl [S0]
      · iexists _
        isplitr; · ipureintro; exact fun _ => rfl
        iexact S0
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [leaves1_idle4 V c t h3]
    iintro ⟨⟨⟨%cnt, %hi, S0⟩, Hr, Hg⟩, Ho, ⟨%d0, H0⟩, ⟨%d1, H1⟩, ⟨%d2, H2⟩, ⟨%d3, H3⟩, ⟨%d4, H4⟩⟩
    iapply (run1_A c (grid1.coords t) _ (hs1_0 t) _ (hs1_1 t) _ (hs1_2 t) _ (hs1_3 t) _ (hs1_4 t) _ (Memref.isWhole_whole _) (fun h => h3 ((hlast1 t).mp h))
      (iblk1 V c 0 t) (iblk1 V c 1 t) _ _ _ cnt Set.univ _)
    isplitl [H0]; · iexact H0
    isplitl [H1]; · iexact H1
    isplitl [H2]; · iexact H2
    isplitl [H3]; · iexact H3
    isplitl [H4]; · iexact H4
    isplitl [S0]; · iexact S0
    iintro ⟨H0, H1, H2, H3, H4, S0⟩
    rw [(cnt_next V c t cnt hi).1]
    isplitl [S0 Hr Hg]
    · isplitl [S0]
      · iexists _
        isplitr; · ipureintro; exact fun _ => rfl
        iexact S0
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation for the second region. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

/-- What the region is handed gives the invariant before the first point. -/
theorem hin1 (c : Dev nD) : iprop(Pipeline.scopedRest (Ix := Unit) (Name := ℕ) (U := UR sig nD τ) (Lvl := ℕ) (Val := Elt F) spec1 c ∗ (∃ r, prngReg c r)) ⊢ (dat1 V c).Φ 0 := by
  rw [show (dat1 V c).Φ 0 = Phi1 V c 0 from rfl, scopedRest1_eq]
  unfold Phi1 rest1
  simp only [scM1_0, owns_whole]
  iintro ⟨⟨R0, R1, R2, R3, R4, R5, R6, R7, R8, R9, R10, R11, R12, R13, ⟨%f, S0⟩⟩, Hg⟩
  isplitl [S0]
  · iexists f
    isplitr; · ipureintro; exact fun h => absurd h (by decide)
    iexact S0
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

/-- After the last point the invariant gives it back. -/
theorem hout1 (c : Dev nD) : (dat1 V c).Φ (Fin.last cfg1.N) ⊢ iprop(Pipeline.scopedRest (Ix := Unit) (Name := ℕ) (U := UR sig nD τ) (Lvl := ℕ) (Val := Elt F) spec1 c ∗ (∃ r, prngReg c r)) := by
  rw [show (dat1 V c).Φ (Fin.last cfg1.N) = Phi1 V c cfg1.N from rfl, scopedRest1_eq]
  unfold Phi1 rest1
  simp only [scM1_0, owns_whole]
  iintro ⟨⟨%cnt, -, S0⟩, ⟨R0, R1, R2, R3, R4, R5, R6, R7, R8, R9, R10, R11, R12, R13⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists _; iexact S0
  iexact Hg

end Cert.KernelIdeal.Hand

end
-- ==== Proof.Main.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.RegionArraysS
public import Idealize.ShloMosaic.Lib.Ring
public import Idealize.ShloMosaic.Lib.Tactic
public import Idealize.ShloMosaic.Lib.WordCmp
public import proofs.«01_k».proof.Proof.Body0
public import proofs.«01_k».proof.Proof.Body1
public import Idealize.ShloMosaic.Lib.Pipeline.Regions
public import Idealize.ShloMosaic.Lib.StableHlo.RunHlo

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program -/

/-- After the first host stretch, -/
def U1 (c : Dev nD) : Valuation τ sig (Elt F) := StableHlo.after hostOps0 (fun b => m (c, b))
/-- after the first region, -/
def U2 (c : Dev nD) : Valuation τ sig (Elt F) := Pipeline.afterRegion (dat0 (U1 m) c) (U1 m c)
/-- after the second host stretch, -/
def U3 (c : Dev nD) : Valuation τ sig (Elt F) := StableHlo.after hostOps1 (U2 m c)
/-- after the second region, -/
def U4 (c : Dev nD) : Valuation τ sig (Elt F) := Pipeline.afterRegion (dat1 (U3 m) c) (U3 m c)
/-- and at the end. -/
def U5 (c : Dev nD) : Valuation τ sig (Elt F) := StableHlo.after hostOps2 (U4 m c)

/-- The two regions' proof data. -/
def pdats (p : Fin 2) (c : Dev nD) : Dat τ (Elt F) Unit ℕ (UR sig nD τ) ℕ (cfgs p) c :=
  match p with
  | ⟨0, _⟩ => dat0 (U1 m) c
  | ⟨1, _⟩ => dat1 (U3 m) c

/-- The staging cells of the TensorCores carry the one index, at level zero. -/
def lvs (g : GSem nD τ sig) : Finset Unit := if g.1.2 = .tc then {()} else ∅
/-- The one level is that of every TensorCore semaphore. -/
theorem lvs_tc (c : Dev nD) (s : SemLoc sig) : () ∈ lvs ((c : Thread nD τ), s) := by
  unfold lvs; rw [if_pos rfl]; exact Finset.mem_singleton_self _
/-- Other semaphores have no level. -/
theorem lvs_off (g : GSem nD τ sig) (h : g.1.2 ≠ .tc) : lvs g = ∅ := by
  unfold lvs; rw [if_neg h]
/-- The one level. -/
abbrev lv (_ : GSem nD τ sig) (_ : Unit) : ℕ := 0

/-- What rides beside the buffers: the core owes nothing, and its generator register. -/
abbrev Ride (ρ : Dev nD → PrngReg) (c : Dev nD) : sProp 𝕄 :=
  iprop((∃ W, owes (c : Thread nD τ) (0 : CellTallies nD τ sig Unit) W) ∗ (∃ r, prngReg c r) ∗ emp)

/-- The first host stretch as a segment. -/
def hseg0 : HostSeg (Ix := Unit) (Name := ℕ) (U := UR sig nD τ) (Lvl := ℕ) (pcfgs (F := F)) defs₀ Variants.none lvs lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) (Ride ρ)
/-- The second host stretch as a segment. -/
def hseg1 : HostSeg (Ix := Unit) (Name := ℕ) (U := UR sig nD τ) (Lvl := ℕ) (pcfgs (F := F)) defs₀ Variants.none lvs lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) (Ride ρ)
/-- The last host stretch as a segment. -/
def hseg2 : HostSeg (Ix := Unit) (Name := ℕ) (U := UR sig nD τ) (Lvl := ℕ) (pcfgs (F := F)) defs₀ Variants.none lvs lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) (Ride ρ)

/-- The levels of a launch are cut off from the others. -/
theorem cut (p : Fin 2) : Pipeline.LevelCut (pcfgs (F := F)) adm () lvs lv p (fun _ => (0 : CellTallies nD τ sig Unit)) (fun _ => 0) where
  hι c w s := lvs_tc c _
  hιb _ _ _ := le_refl _
  hD _ _ _ h := absurd h (lt_irrefl _)

/-- The arrays of the first launch are among the buffers. -/
theorem sub0 : Pipeline.arrRefs (τ := τ) (pcfgs (F := F) 0).spec ⊆ Pipeline.ucRefs τ sig :=
  Pipeline.arrRefs_sub_ucRefs spec0 (by decide)
/-- The arrays of the second launch are among the buffers. -/
theorem sub1 : Pipeline.arrRefs (τ := τ) (pcfgs (F := F) 1).spec ⊆ Pipeline.ucRefs τ sig :=
  Pipeline.arrRefs_sub_ucRefs spec1 (by decide)

set_option backward.isDefEq.respectTransparency.types false in
/-- The first region as a segment, entered and left with every unscoped buffer held. -/
def rseg0 : RegionSeg (pcfgs (F := F)) adm (pdats m) () defs₀ Variants.none lvs lv 0 :=
  RegionSeg.ofHeldIn (pcfgs (F := F)) adm (pdats m) () defs₀ Variants.none lvs lv 0 (fun _ => 0) (Pipeline.ucRefs τ sig)
    (fun c => iprop(∃ r, prngReg c r)) (fun c => iprop(∃ r, prngReg c r)) launch0.toP rfl
    (fun c => (body_obligation0 (U1 m) c).loose) (fun _ _ => rfl) (fun _ => rfl)
    (fun c => (dat0 (U1 m) c).share_full fun _ => rfl) (fun c => hin0 (U1 m) c) (fun c => hout0 (U1 m) c)
    (fun _ => 0) (cut 0) (fun _ => iprop(emp)) (U1 m) (fun c w => A0_eq (U1 m) c w)

set_option backward.isDefEq.respectTransparency.types false in
/-- The second region as a segment. -/
def rseg1 : RegionSeg (pcfgs (F := F)) adm (pdats m) () defs₀ Variants.none lvs lv 1 :=
  RegionSeg.ofHeldIn (pcfgs (F := F)) adm (pdats m) () defs₀ Variants.none lvs lv 1 (fun _ => 0) (Pipeline.ucRefs τ sig)
    (fun c => iprop(∃ r, prngReg c r)) (fun c => iprop(∃ r, prngReg c r)) launch1.toP rfl
    (fun c => (body_obligation1 (U3 m) c).loose) (fun _ _ => rfl) (fun _ => rfl)
    (fun c => (dat1 (U3 m) c).share_full fun _ => rfl) (fun c => hin1 (U3 m) c) (fun c => hout1 (U3 m) c)
    (fun _ => 0) (cut 1) (fun _ => iprop(emp)) (U3 m) (fun c w => A1_eq (U3 m) c w)

/-- Each region is entered from, and left at, every unscoped buffer held. -/
theorem pre0 (c : Dev nD) : iprop(StableHlo.held (c : Thread nD τ) (Pipeline.ucRefs τ sig) (U1 m c) ∗ Ride ρ c) ⊢ (rseg0 m).pre c := by
  unfold rseg0
  exact Pipeline.RegionSeg.ofHeldIn_pre (D := fun _ => 0) (X := fun c => iprop(∃ r, prngReg c r)) (R := fun _ => iprop(emp)) (W := U1 m) sub0 c
/-- What the first launch leaves. -/
theorem post0 (c : Dev nD) : (rseg0 m).post c ⊢ iprop(StableHlo.held (c : Thread nD τ) (Pipeline.ucRefs τ sig) (U2 m c) ∗ Ride ρ c) := by
  unfold rseg0 U2
  exact Pipeline.RegionSeg.ofHeldIn_post (D := fun _ => 0) (Y := fun c => iprop(∃ r, prngReg c r)) (R := fun _ => iprop(emp)) (W := U1 m) sub0 c
/-- What the second launch is given. -/
theorem pre1 (c : Dev nD) : iprop(StableHlo.held (c : Thread nD τ) (Pipeline.ucRefs τ sig) (U3 m c) ∗ Ride ρ c) ⊢ (rseg1 m).pre c := by
  unfold rseg1
  exact Pipeline.RegionSeg.ofHeldIn_pre (D := fun _ => 0) (X := fun c => iprop(∃ r, prngReg c r)) (R := fun _ => iprop(emp)) (W := U3 m) sub1 c
/-- What the second launch leaves. -/
theorem post1 (c : Dev nD) : (rseg1 m).post c ⊢ iprop(StableHlo.held (c : Thread nD τ) (Pipeline.ucRefs τ sig) (U4 m c) ∗ Ride ρ c) := by
  unfold rseg1 U4
  exact Pipeline.RegionSeg.ofHeldIn_post (D := fun _ => 0) (Y := fun c => iprop(∃ r, prngReg c r)) (R := fun _ => iprop(emp)) (W := U3 m) sub1 c

/-- What rides along owes nothing. -/
theorem ride_owes (c : Dev nD) : Ride (F := F) ρ c ⊢ iprop(∃ W, owes (c : Thread nD τ) (0 : CellTallies nD τ sig Unit) W) := by
  iintro ⟨H, -, -⟩
  iexact H

/-- The program as segments. -/
abbrev segs (c : Dev nD) : List (Seg (pcfgs (F := F)) adm (pdats m) () defs₀ Variants.none lvs lv) :=
  [.host (hseg0 m ρ), .region (rseg0 m), .host (hseg1 m ρ), .region (rseg1 m), .host (hseg2 m ρ)]

set_option backward.isDefEq.respectTransparency.types false in
/-- Every weakly fair execution from memory `m` with zero counters terminates; at the end every unscoped buffer holds
    what the segments leave, and every counter is at zero. -/
theorem run_main : θ_run defs (onTc (τ := τ) (main (F := F))) ⟨m, fun _ => 0, ρ⟩ (fun r =>
    (∀ c : Dev nD, ∀ b ∈ Pipeline.ucRefs τ sig, r.2.mem (c, b) = U5 m c b) ∧ r.2.sem = fun _ => 0) := by
  refine Pipeline.θ_run_regions_kit_dev_sems (pcfgs (F := F)) adm (pdats m) () cellOf_inj emb₁ defs₀ Variants.none lvs lv m ρ main
    (segs m ρ)
    (fun c Q => by
      rewrite [main_chain c, Seg.run_eq_chain,
        show (segs m ρ c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) lvs_off (fun _ => iprop(emp))
    (initOf (Pipeline.cells cfgs cellOf_inj) (Pipeline.launchToks cfgs cellOf_inj)) ?_
    (T₀ := fun c => iprop(StableHlo.held (c : Thread nD τ) (Pipeline.ucRefs τ sig) (fun b => m (c, b)) ∗ Ride ρ c))
    (Tₙ := fun c => StableHlo.held (c : Thread nD τ) (Pipeline.ucRefs τ sig) (U5 m c))
    (hch := fun c => ⟨.rfl, pre0 m ρ c, post0 m ρ c, pre1 m ρ c, post1 m ρ c, sep_mono .rfl (ride_owes ρ c)⟩)
    (hinit := ?_) (QY := fun c s => ∀ b ∈ Pipeline.ucRefs τ sig, s.mem (c, b) = U5 m c b)
    (hfin := fun c s' => ?_) (hQ := fun _ h hz => ⟨h, funext fun g => hz g (.inr (regions_no_unscoped g.2))⟩)
  · iintro Hu
    imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach lvs lv fun c => ?_
    rw [show unscopedBufs c (fun b => m ((c : Thread nD τ).loc b)) = StableHlo.held (c : Thread nD τ) (Pipeline.ucRefs τ sig) (fun b => m (c, b))
      from Pipeline.unscopedBufs_held c (fun b => m (c, b))]
    iintro ⟨⟨Hh, -, HO, -, Hp, -⟩, -⟩
    imodintro
    isplitl [Hh]; · iexact Hh
    isplitl [HO]; · iexists ∅; iexact HO
    isplitl [Hp]; · iexists (ρ c); iexact Hp
    iempintro
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro; exact h
    · iexact HSI

/-- An unscoped TensorCore buffer is in the set the run ends with. -/
theorem mem_uc (r : Ref sig .tc) (h : r.isScoped = false) : Proc.devRef (τ := τ) .tc r ∈ Pipeline.ucRefs τ sig :=
  Finset.mem_filter.mpr ⟨StableHlo.devRef_mem_tcRefs r, fun e => Bool.false_ne_true (h.symm.trans e)⟩

/-- What a first-region run leaves untouched, -/
theorem U2_of (c : Dev nD) (r : Ref sig .tc) (h : ∀ w, Pipeline.arrRef spec0 w = r → (cfg0.win w).isOut = false) : U2 m c r = U1 m c r :=
  Pipeline.afterRegion_keeps (dat0 (U1 m) c) (U1 m c) winFacts0.arr_inj (fun w => A0_eq (U1 m) c w) r h
/-- A buffer that this part does not write keeps its contents. -/
theorem U4_of (c : Dev nD) (r : Ref sig .tc) (h : ∀ w, Pipeline.arrRef spec1 w = r → (cfg1.win w).isOut = false) : U4 m c r = U3 m c r :=
  Pipeline.afterRegion_keeps (dat1 (U3 m) c) (U3 m c) winFacts1.arr_inj (fun w => A1_eq (U3 m) c w) r h
/-- A buffer that this part does not write keeps its contents. -/
theorem U1_of (c : Dev nD) (r : Ref sig .tc) (h : r ∉ hostOps0_W) : U1 m c r = m (c, Proc.devRef .tc r) :=
  StableHlo.after_of_writes_sub hostOps0 _ hostOps0_writes h
/-- A buffer that this part does not write keeps its contents. -/
theorem U3_of (c : Dev nD) (r : Ref sig .tc) (h : r ∉ hostOps1_W) : U3 m c r = U2 m c r :=
  StableHlo.after_of_writes_sub hostOps1 _ hostOps1_writes h
/-- A buffer that this part does not write keeps its contents. -/
theorem U5_of (c : Dev nD) (r : Ref sig .tc) (h : r ∉ hostOps2_W) : U5 m c r = U4 m c r :=
  StableHlo.after_of_writes_sub hostOps2 _ hostOps2_writes h

/-- The first argument ends as launched, -/
theorem U5_arg0 (c : Dev nD) : U5 m c main_arg0 = m ((c.tc : Thread nD τ).loc main_arg0) :=
  (U5_of m c main_arg0 (by decide)).trans <| (U4_of m c main_arg0 (by decide)).trans <| (U3_of m c main_arg0 (by decide)).trans <|
    (U2_of m c main_arg0 (by decide)).trans (U1_of m c main_arg0 (by decide))
/-- and so does the second. -/
theorem U5_arg1 (c : Dev nD) : U5 m c main_arg1 = m ((c.tc : Thread nD τ).loc main_arg1) :=
  (U5_of m c main_arg1 (by decide)).trans <| (U4_of m c main_arg1 (by decide)).trans <| (U3_of m c main_arg1 (by decide)).trans <|
    (U2_of m c main_arg1 (by decide)).trans (U1_of m c main_arg1 (by decide))

/-- The frame: the program terminates, its arguments end as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) (fun r h => ⟨fun c => ⟨(h.1 c _ (mem_uc main_arg0 rfl)).trans (U5_arg0 m c), (h.1 c _ (mem_uc main_arg1 rfl)).trans (U5_arg1 m c)⟩, h.2⟩)

end Cert.KernelIdeal.Hand

end
-- ==== Proof.RefRun.lean ====
module

public import proofs.«01_k».proof.Proof.Gen.ReferenceIdeal
public import Idealize.ShloMosaic.Lib.StableHlo.Run
public import Idealize.ShloMosaic.Lib.StableHlo.RunHlo
public import Idealize.ShloMosaic.Lib.Tactic

@[expose] public section

set_option maxRecDepth 16384

noncomputable section

namespace Cert.ReferenceIdeal.Hand

open Cert.ReferenceIdeal
open Idealize.ShloMosaic Idealize.ShloMosaic.TcCoe Idealize.ShloMosaic.StableHlo
open Idealize.SL.Sem
open Facts₀ Facts

variable {F : FTy → Type} [FloatOps F]

/-! ## The reference's operations, in five stretches -/

/-- The distances. -/
abbrev opsA : List (HloOp τ sig (Elt F)) :=
  [ StableHlo.reshape main_arg0 main_v0 (rfl : (.f32 : EltTy) = .f32) shapeCasts_S4x1024x256_S4096x256,
    StableHlo.binary main_arg1 main_arg1 main_v1 (mulf : (⟨S8192x256, .f32⟩ : BufTy).Contents (Elt F) → (⟨S8192x256, .f32⟩ : BufTy).Contents (Elt F) → (⟨S8192x256, .f32⟩ : BufTy).Contents (Elt F)),
    StableHlo.nullary main_cst (constant S_ .f32 0x00000000#32),
    StableHlo.binary main_v1 main_cst main_v2 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.binary main_v0 main_v0 main_v3 (mulf : (⟨S4096x256, .f32⟩ : BufTy).Contents (Elt F) → (⟨S4096x256, .f32⟩ : BufTy).Contents (Elt F) → (⟨S4096x256, .f32⟩ : BufTy).Contents (Elt F)),
    StableHlo.nullary main_cst_0 (constant S_ .f32 0x00000000#32),
    StableHlo.binary main_v3 main_cst_0 main_v4 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v4 main_v5 (broadcastInDim S4096x1 ![0] bcast_S4096_S4096x1_0 : (⟨S4096, .f32⟩ : BufTy).Contents (Elt F) → (⟨S4096x1, .f32⟩ : BufTy).Contents (Elt F)),
    StableHlo.unary main_v2 main_v6 (broadcastInDim S1x8192 ![1] bcast_S8192_S1x8192_1 : (⟨S8192, .f32⟩ : BufTy).Contents (Elt F) → (⟨S1x8192, .f32⟩ : BufTy).Contents (Elt F)),
    StableHlo.unary main_v5 main_v7 (broadcastInDim S4096x8192 ![0, 1] bcast_S4096x1_S4096x8192_0_1 : (⟨S4096x1, .f32⟩ : BufTy).Contents (Elt F) → (⟨S4096x8192, .f32⟩ : BufTy).Contents (Elt F)),
    StableHlo.unary main_v6 main_v8 (broadcastInDim S4096x8192 ![0, 1] bcast_S1x8192_S4096x8192_0_1 : (⟨S1x8192, .f32⟩ : BufTy).Contents (Elt F) → (⟨S4096x8192, .f32⟩ : BufTy).Contents (Elt F)),
    StableHlo.binary main_v7 main_v8 main_v9 (addf : (⟨S4096x8192, .f32⟩ : BufTy).Contents (Elt F) → (⟨S4096x8192, .f32⟩ : BufTy).Contents (Elt F) → (⟨S4096x8192, .f32⟩ : BufTy).Contents (Elt F)),
    StableHlo.unary main_arg1 main_v10 ((transpose S256x8192 [1, 0] · transposes_S8192x256_S256x8192_1_0) : (⟨S8192x256, .f32⟩ : BufTy).Contents (Elt F) → (⟨S256x8192, .f32⟩ : BufTy).Contents (Elt F)),
    StableHlo.binary main_v0 main_v10 main_v11 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)),
    StableHlo.nullary main_cst_1 (constant S_ .f32 0x40000000#32),
    StableHlo.unary main_cst_1 main_v12 (broadcastInDim S4096x8192 ![] bcast_S_S4096x8192 : (⟨S_, .f32⟩ : BufTy).Contents (Elt F) → (⟨S4096x8192, .f32⟩ : BufTy).Contents (Elt F)),
    StableHlo.binary main_v12 main_v11 main_v13 (mulf : (⟨S4096x8192, .f32⟩ : BufTy).Contents (Elt F) → (⟨S4096x8192, .f32⟩ : BufTy).Contents (Elt F) → (⟨S4096x8192, .f32⟩ : BufTy).Contents (Elt F)),
    StableHlo.binary main_v9 main_v13 main_v14 (subf : (⟨S4096x8192, .f32⟩ : BufTy).Contents (Elt F) → (⟨S4096x8192, .f32⟩ : BufTy).Contents (Elt F) → (⟨S4096x8192, .f32⟩ : BufTy).Contents (Elt F)) ]
/-- What each of them writes. -/
abbrev opsA_W : List (Ref sig .tc) := [main_v0, main_v1, main_cst, main_v2, main_v3, main_cst_0, main_v4, main_v5, main_v6, main_v7, main_v8, main_v9, main_v10, main_v11, main_cst_1, main_v12, main_v13, main_v14]
/-- This stretch writes only its own results. -/
theorem opsA_writes : (opsA : List (HloOp τ sig (Elt F))).Forall fun op => op.writes ⊆ (opsA_W.map (Proc.devRef (τ := τ) .tc)).toFinset :=
  StableHlo.forall_writes_sub_of_map rfl
/-- This stretch takes no fresh buffer. -/
theorem opsA_fresh : (opsA : List (HloOp τ sig (Elt F))).Forall fun op => op.fresh = ∅ := by
  simp only [List.Forall]; repeat' constructor
/-- This stretch stays among the buffers. -/
theorem opsA_sub : (opsA : List (HloOp τ sig (Elt F))).Forall fun op => op.bufs ⊆ StableHlo.tcRefs τ sig := by
  simp

/-- The nearest codeword. -/
abbrev opsB : List (HloOp τ sig (Elt F)) :=
  [ StableHlo.nullary main_call0_v0 (iotaInDim S4096x8192 32 1),
    StableHlo.nullary main_call0_cst (constant S_ .f32 0x7F800000#32),
    StableHlo.nullary main_call0_c (constantI S_ 32 0#32),
    StableHlo.quaternary main_v14 main_call0_v0 main_call0_cst main_call0_c main_call0_v1_0 ((fun x y u v j => (Host.argReduce reducer_argmin_f32_i32 x y u v reducesTo_S4096x8192_S4096_d1 h_S_ j).1) : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .f32⟩ : BufTy).Contents (Elt F)),
    StableHlo.quaternary main_v14 main_call0_v0 main_call0_cst main_call0_c main_v15 ((fun x y u v j => (Host.argReduce reducer_argmin_f32_i32 x y u v reducesTo_S4096x8192_S4096_d1 h_S_ j).2) : (⟨S4096x8192, .f32⟩ : BufTy).Contents (Elt F) → (⟨S4096x8192, .i32⟩ : BufTy).Contents (Elt F) → (⟨S_, .f32⟩ : BufTy).Contents (Elt F) → (⟨S_, .i32⟩ : BufTy).Contents (Elt F) → (⟨S4096, .i32⟩ : BufTy).Contents (Elt F)) ]
/-- What each of them writes. -/
abbrev opsB_W : List (Ref sig .tc) := [main_call0_v0, main_call0_cst, main_call0_c, main_call0_v1_0, main_v15]
/-- This stretch writes only its own results. -/
theorem opsB_writes : (opsB : List (HloOp τ sig (Elt F))).Forall fun op => op.writes ⊆ (opsB_W.map (Proc.devRef (τ := τ) .tc)).toFinset :=
  StableHlo.forall_writes_sub_of_map rfl
/-- This stretch takes no fresh buffer. -/
theorem opsB_fresh : (opsB : List (HloOp τ sig (Elt F))).Forall fun op => op.fresh = ∅ := by
  simp only [List.Forall]; repeat' constructor
/-- This stretch stays among the buffers. -/
theorem opsB_sub : (opsB : List (HloOp τ sig (Elt F))).Forall fun op => op.bufs ⊆ StableHlo.tcRefs τ sig := by
  simp

/-- Its one-hot row. -/
abbrev opsC : List (HloOp τ sig (Elt F)) :=
  [ StableHlo.unary main_v15 main_call1_v0 ((broadcastInDim S4096x1 ![0] bcast_S4096_S4096x1_0) : (⟨S4096, .i32⟩ : BufTy).Contents (Elt F) → (⟨S4096x1, .i32⟩ : BufTy).Contents (Elt F)),
    StableHlo.nullary main_call1_v1 (iotaInDim S1x8192 32 1),
    StableHlo.unary main_call1_v0 main_call1_v2 ((broadcastInDim S4096x8192 ![0, 1] bcast_S4096x1_S4096x8192_0_1) : (⟨S4096x1, .i32⟩ : BufTy).Contents (Elt F) → (⟨S4096x8192, .i32⟩ : BufTy).Contents (Elt F)),
    StableHlo.unary main_call1_v1 main_call1_v3 ((broadcastInDim S4096x8192 ![0, 1] bcast_S1x8192_S4096x8192_0_1) : (⟨S1x8192, .i32⟩ : BufTy).Contents (Elt F) → (⟨S4096x8192, .i32⟩ : BufTy).Contents (Elt F)),
    StableHlo.binary main_call1_v2 main_call1_v3 main_call1_v4 ((cmpi .eq) : (⟨S4096x8192, .i32⟩ : BufTy).Contents (Elt F) → (⟨S4096x8192, .i32⟩ : BufTy).Contents (Elt F) → (⟨S4096x8192, .i1⟩ : BufTy).Contents (Elt F)),
    StableHlo.unary main_call1_v4 main_v16 ((uitofp .f32) : (⟨S4096x8192, .i1⟩ : BufTy).Contents (Elt F) → (⟨S4096x8192, .f32⟩ : BufTy).Contents (Elt F)) ]
/-- What each of them writes. -/
abbrev opsC_W : List (Ref sig .tc) := [main_call1_v0, main_call1_v1, main_call1_v2, main_call1_v3, main_call1_v4, main_v16]
/-- This stretch writes only its own results. -/
theorem opsC_writes : (opsC : List (HloOp τ sig (Elt F))).Forall fun op => op.writes ⊆ (opsC_W.map (Proc.devRef (τ := τ) .tc)).toFinset :=
  StableHlo.forall_writes_sub_of_map rfl
/-- This stretch takes no fresh buffer. -/
theorem opsC_fresh : (opsC : List (HloOp τ sig (Elt F))).Forall fun op => op.fresh = ∅ := by
  simp only [List.Forall]; repeat' constructor
/-- This stretch stays among the buffers. -/
theorem opsC_sub : (opsC : List (HloOp τ sig (Elt F))).Forall fun op => op.bufs ⊆ StableHlo.tcRefs τ sig := by
  simp

/-- Its codebook row. -/
abbrev opsD : List (HloOp τ sig (Elt F)) :=
  [ StableHlo.nullary main_call2_c (constantI S_ 32 0#32),
    StableHlo.unary main_call2_c main_call2_v0 ((broadcastInDim S4096 ![] bcast_S_S4096) : (⟨S_, .i32⟩ : BufTy).Contents (Elt F) → (⟨S4096, .i32⟩ : BufTy).Contents (Elt F)),
    StableHlo.binary main_v15 main_call2_v0 main_call2_v1 ((cmpi .slt) : (⟨S4096, .i32⟩ : BufTy).Contents (Elt F) → (⟨S4096, .i32⟩ : BufTy).Contents (Elt F) → (⟨S4096, .i1⟩ : BufTy).Contents (Elt F)),
    StableHlo.nullary main_call2_c_0 (constantI S_ 32 8192#32),
    StableHlo.unary main_call2_c_0 main_call2_v2 ((broadcastInDim S4096 ![] bcast_S_S4096) : (⟨S_, .i32⟩ : BufTy).Contents (Elt F) → (⟨S4096, .i32⟩ : BufTy).Contents (Elt F)),
    StableHlo.binary main_v15 main_call2_v2 main_call2_v3 (addi : (⟨S4096, .i32⟩ : BufTy).Contents (Elt F) → (⟨S4096, .i32⟩ : BufTy).Contents (Elt F) → (⟨S4096, .i32⟩ : BufTy).Contents (Elt F)),
    StableHlo.ternary main_call2_v1 main_call2_v3 main_v15 main_call2_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_call2_v4 main_call2_v5 ((broadcastInDim S4096x1 ![0] bcast_S4096_S4096x1_0) : (⟨S4096, .i32⟩ : BufTy).Contents (Elt F) → (⟨S4096x1, .i32⟩ : BufTy).Contents (Elt F)),
    StableHlo.nullary main_call2_c_1 (constantI S1 32 8191#32),
    StableHlo.nullary main_call2_c_2 (constantI S_ 32 0#32),
    StableHlo.unary main_call2_c_2 main_call2_v6 ((broadcastInDim S4096x1 ![] bcast_S_S4096x1) : (⟨S_, .i32⟩ : BufTy).Contents (Elt F) → (⟨S4096x1, .i32⟩ : BufTy).Contents (Elt F)),
    StableHlo.binary main_call2_v5 main_call2_v6 main_call2_v7 ((cmpi .sge) : (⟨S4096x1, .i32⟩ : BufTy).Contents (Elt F) → (⟨S4096x1, .i32⟩ : BufTy).Contents (Elt F) → (⟨S4096x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S4096x1 ![0, 1] bcast_S1x1_S4096x1_0_1) : (⟨S1x1, .i32⟩ : BufTy).Contents (Elt F) → (⟨S4096x1, .i32⟩ : BufTy).Contents (Elt F)),
    StableHlo.binary main_call2_v5 main_call2_v9 main_call2_v10 ((cmpi .sle) : (⟨S4096x1, .i32⟩ : BufTy).Contents (Elt F) → (⟨S4096x1, .i32⟩ : BufTy).Contents (Elt F) → (⟨S4096x1, .i1⟩ : BufTy).Contents (Elt F)),
    StableHlo.binary main_call2_v7 main_call2_v10 main_call2_v11 (andi : (⟨S4096x1, .i1⟩ : BufTy).Contents (Elt F) → (⟨S4096x1, .i1⟩ : BufTy).Contents (Elt F) → (⟨S4096x1, .i1⟩ : BufTy).Contents (Elt F)),
    StableHlo.nullary main_call2_c_3 (constantI S_ 1 1#1),
    StableHlo.binary main_call2_v11 main_call2_c_3 main_call2_v12 ((fun x v => Host.reduce IntOp.andi x v reducesTo_S4096x1_S4096_d1 h_S_) : (⟨S4096x1, .i1⟩ : BufTy).Contents (Elt F) → (⟨S_, .i1⟩ : BufTy).Contents (Elt F) → (⟨S4096, .i1⟩ : BufTy).Contents (Elt F)),
    StableHlo.binary main_arg1 main_call2_v5 main_call2_v13 ((fun x i => Host.gather gather_S8192x256_S4096x1_S4096x256_1_0_n_n_0_1_1256 x i) : (⟨S8192x256, .f32⟩ : BufTy).Contents (Elt F) → (⟨S4096x1, .i32⟩ : BufTy).Contents (Elt F) → (⟨S4096x256, .f32⟩ : BufTy).Contents (Elt F)),
    StableHlo.unary main_call2_v12 main_call2_v14 ((broadcastInDim S4096x256 ![0] bcast_S4096_S4096x256_0) : (⟨S4096, .i1⟩ : BufTy).Contents (Elt F) → (⟨S4096x256, .i1⟩ : BufTy).Contents (Elt F)),
    StableHlo.nullary main_call2_cst (constant S_ .f32 0x7FC00000#32),
    StableHlo.unary main_call2_cst main_call2_v15 ((broadcastInDim S4096x256 ![] bcast_S_S4096x256) : (⟨S_, .f32⟩ : BufTy).Contents (Elt F) → (⟨S4096x256, .f32⟩ : BufTy).Contents (Elt F)),
    StableHlo.ternary main_call2_v14 main_call2_v13 main_call2_v15 main_v17 (select : (⟨S4096x256, .i1⟩ : BufTy).Contents (Elt F) → (⟨S4096x256, .f32⟩ : BufTy).Contents (Elt F) → (⟨S4096x256, .f32⟩ : BufTy).Contents (Elt F) → (⟨S4096x256, .f32⟩ : BufTy).Contents (Elt F)) ]
/-- What each of them writes. -/
abbrev opsD_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v17]
/-- This stretch writes only its own results. -/
theorem opsD_writes : (opsD : List (HloOp τ sig (Elt F))).Forall fun op => op.writes ⊆ (opsD_W.map (Proc.devRef (τ := τ) .tc)).toFinset :=
  StableHlo.forall_writes_sub_of_map rfl
/-- This stretch takes no fresh buffer. -/
theorem opsD_fresh : (opsD : List (HloOp τ sig (Elt F))).Forall fun op => op.fresh = ∅ := by
  simp only [List.Forall]; repeat' constructor
/-- This stretch stays among the buffers. -/
theorem opsD_sub : (opsD : List (HloOp τ sig (Elt F))).Forall fun op => op.bufs ⊆ StableHlo.tcRefs τ sig := by
  simp

/-- The five results. -/
abbrev opsE : List (HloOp τ sig (Elt F)) :=
  [ StableHlo.reshape main_v17 main_v18 (rfl : (.f32 : EltTy) = .f32) shapeCasts_S4096x256_S4x1024x256,
    StableHlo.binary main_arg0 main_v18 main_v19 (subf : (⟨S4x1024x256, .f32⟩ : BufTy).Contents (Elt F) → (⟨S4x1024x256, .f32⟩ : BufTy).Contents (Elt F) → (⟨S4x1024x256, .f32⟩ : BufTy).Contents (Elt F)),
    StableHlo.binary main_v19 main_v19 main_v20 (mulf : (⟨S4x1024x256, .f32⟩ : BufTy).Contents (Elt F) → (⟨S4x1024x256, .f32⟩ : BufTy).Contents (Elt F) → (⟨S4x1024x256, .f32⟩ : BufTy).Contents (Elt F)),
    StableHlo.nullary main_cst_2 (constant S_ .f32 0x00000000#32),
    StableHlo.binary main_v20 main_cst_2 main_v21 ((fun x v => Host.reduceAdd x v reducesTo_S4x1024x256_S_d0_1_2 h_S_) : (⟨S4x1024x256, .f32⟩ : BufTy).Contents (Elt F) → (⟨S_, .f32⟩ : BufTy).Contents (Elt F) → (⟨S_, .f32⟩ : BufTy).Contents (Elt F)),
    StableHlo.nullary main_cst_3 (constant S_ .f32 0x49800000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3E800000#32),
    StableHlo.binary main_cst_4 main_v22 main_v23 (mulf : (⟨S_, .f32⟩ : BufTy).Contents (Elt F) → (⟨S_, .f32⟩ : BufTy).Contents (Elt F) → (⟨S_, .f32⟩ : BufTy).Contents (Elt F)),
    StableHlo.binary main_v18 main_arg0 main_v24 (subf : (⟨S4x1024x256, .f32⟩ : BufTy).Contents (Elt F) → (⟨S4x1024x256, .f32⟩ : BufTy).Contents (Elt F) → (⟨S4x1024x256, .f32⟩ : BufTy).Contents (Elt F)),
    StableHlo.binary main_arg0 main_v24 main_v25 (addf : (⟨S4x1024x256, .f32⟩ : BufTy).Contents (Elt F) → (⟨S4x1024x256, .f32⟩ : BufTy).Contents (Elt F) → (⟨S4x1024x256, .f32⟩ : BufTy).Contents (Elt F)),
    StableHlo.nullary main_cst_5 (constant S_ .f32 0x00000000#32),
    StableHlo.binary main_v16 main_cst_5 main_v26 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    StableHlo.nullary main_cst_6 (constant S_ .f32 0x45800000#32),
    StableHlo.unary main_cst_6 main_v27 (broadcastInDim S8192 ![] bcast_S_S8192 : (⟨S_, .f32⟩ : BufTy).Contents (Elt F) → (⟨S8192, .f32⟩ : BufTy).Contents (Elt F)),
    StableHlo.binary main_v26 main_v27 main_v28 (Host.divf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x2EDBE6FF#32),
    StableHlo.unary main_cst_7 main_v29 (broadcastInDim S8192 ![] bcast_S_S8192 : (⟨S_, .f32⟩ : BufTy).Contents (Elt F) → (⟨S8192, .f32⟩ : BufTy).Contents (Elt F)),
    StableHlo.binary main_v28 main_v29 main_v30 (addf : (⟨S8192, .f32⟩ : BufTy).Contents (Elt F) → (⟨S8192, .f32⟩ : BufTy).Contents (Elt F) → (⟨S8192, .f32⟩ : BufTy).Contents (Elt F)),
    StableHlo.unary main_v30 main_v31 (Host.log : (⟨S8192, .f32⟩ : BufTy).Contents (Elt F) → (⟨S8192, .f32⟩ : BufTy).Contents (Elt F)),
    StableHlo.binary main_v28 main_v31 main_v32 (mulf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x00000000#32),
    StableHlo.binary main_v32 main_cst_8 main_v33 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v33 main_v34 (Host.negf : (⟨S_, .f32⟩ : BufTy).Contents (Elt F) → (⟨S_, .f32⟩ : BufTy).Contents (Elt F)),
    StableHlo.unary main_v34 main_v35 (Host.exp : (⟨S_, .f32⟩ : BufTy).Contents (Elt F) → (⟨S_, .f32⟩ : BufTy).Contents (Elt F)),
    StableHlo.reshape main_v15 main_v36 (rfl : (.i32 : EltTy) = .i32) shapeCasts_S4096_S4x1024,
    StableHlo.reshape main_v16 main_v37 (rfl : (.f32 : EltTy) = .f32) shapeCasts_S4096x8192_S4x1024x8192 ]
/-- What each of them writes. -/
abbrev opsE_W : List (Ref sig .tc) := [main_v18, main_v19, main_v20, main_cst_2, main_v21, main_cst_3, main_v22, main_cst_4, main_v23, main_v24, main_v25, main_cst_5, main_v26, main_cst_6, main_v27, main_v28, main_cst_7, main_v29, main_v30, main_v31, main_v32, main_cst_8, main_v33, main_v34, main_v35, main_v36, main_v37]
/-- This stretch writes only its own results. -/
theorem opsE_writes : (opsE : List (HloOp τ sig (Elt F))).Forall fun op => op.writes ⊆ (opsE_W.map (Proc.devRef (τ := τ) .tc)).toFinset :=
  StableHlo.forall_writes_sub_of_map rfl
/-- This stretch takes no fresh buffer. -/
theorem opsE_fresh : (opsE : List (HloOp τ sig (Elt F))).Forall fun op => op.fresh = ∅ := by
  simp only [List.Forall]; repeat' constructor
/-- This stretch stays among the buffers. -/
theorem opsE_sub : (opsE : List (HloOp τ sig (Elt F))).Forall fun op => op.bufs ⊆ StableHlo.tcRefs τ sig := by
  simp

/-- All of them. -/
abbrev ops : List (HloOp τ sig (Elt F)) := opsA ++ (opsB ++ (opsC ++ (opsD ++ opsE)))

set_option maxHeartbeats 4000000 in
/-- The reference is its operations in order. -/
theorem main_ops (d : Dev nD) : main (F := F) d = seq ops := by
  rfl

/-- What holds of two lists holds of both together. -/
theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

/-- All operations stay among the buffers. -/
theorem ops_sub : (ops : List (HloOp τ sig (Elt F))).Forall fun op => op.bufs ⊆ StableHlo.tcRefs τ sig :=
  forall_append opsA_sub (forall_append opsB_sub (forall_append opsC_sub (forall_append opsD_sub opsE_sub)))
/-- No operation takes a fresh buffer. -/
theorem ops_fresh : (ops : List (HloOp τ sig (Elt F))).Forall fun op => op.fresh = ∅ :=
  forall_append opsA_fresh (forall_append opsB_fresh (forall_append opsC_fresh (forall_append opsD_fresh opsE_fresh)))

variable (m : (ℓ : Loc nD τ sig) → Buf (Elt F) ℓ) (ρ : Dev nD → PrngReg)

/-- Every weakly fair execution terminates with every buffer at what the operations leave. -/
theorem run_main : θ_run defs (onTc (τ := τ) (main (F := F))) ⟨m, fun _ => 0, ρ⟩ (fun r =>
    ∀ (d : Dev nD) (b : Ref sig .tc), r.2.mem ((d.tc : Thread nD τ).loc b) = after ops (launchContents m d) (Proc.devRef .tc b)) :=
  run_seq (by decide) (by decide) defs main (fun _ => ops) main_ops (fun _ => ops_sub) m ρ
    (fun _ => List.forall_iff_forall_mem.mp ops_fresh)

/-- Two stretches of operations, one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- This stretch keeps every buffer it does not write. -/
theorem keepA (V : Valuation τ sig (Elt F)) (r : Ref sig .tc) (h : r ∉ opsA_W) : after opsA V (Proc.devRef .tc r) = V (Proc.devRef .tc r) :=
  StableHlo.after_of_writes_sub opsA V opsA_writes h
/-- This stretch keeps every buffer it does not write. -/
theorem keepB (V : Valuation τ sig (Elt F)) (r : Ref sig .tc) (h : r ∉ opsB_W) : after opsB V (Proc.devRef .tc r) = V (Proc.devRef .tc r) :=
  StableHlo.after_of_writes_sub opsB V opsB_writes h
/-- This stretch keeps every buffer it does not write. -/
theorem keepC (V : Valuation τ sig (Elt F)) (r : Ref sig .tc) (h : r ∉ opsC_W) : after opsC V (Proc.devRef .tc r) = V (Proc.devRef .tc r) :=
  StableHlo.after_of_writes_sub opsC V opsC_writes h
/-- This stretch keeps every buffer it does not write. -/
theorem keepD (V : Valuation τ sig (Elt F)) (r : Ref sig .tc) (h : r ∉ opsD_W) : after opsD V (Proc.devRef .tc r) = V (Proc.devRef .tc r) :=
  StableHlo.after_of_writes_sub opsD V opsD_writes h
/-- This stretch keeps every buffer it does not write. -/
theorem keepE (V : Valuation τ sig (Elt F)) (r : Ref sig .tc) (h : r ∉ opsE_W) : after opsE V (Proc.devRef .tc r) = V (Proc.devRef .tc r) :=
  StableHlo.after_of_writes_sub opsE V opsE_writes h

/-- A buffer that no operation writes ends as launched. -/
theorem keep (V : Valuation τ sig (Elt F)) (r : Ref sig .tc) (hA : r ∉ opsA_W) (hB : r ∉ opsB_W) (hC : r ∉ opsC_W) (hD : r ∉ opsD_W) (hE : r ∉ opsE_W) :
    after ops V (Proc.devRef .tc r) = V (Proc.devRef .tc r) := by
  rw [after_append, after_append, after_append, after_append, keepE _ r hE, keepD _ r hD, keepC _ r hC, keepB _ r hB, keepA _ r hA]

/-- The frame: the reference terminates, its arguments end as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) (fun r h => ⟨fun c => ⟨(h c main_arg0).trans (keep _ main_arg0 (by decide) (by decide) (by decide) (by decide) (by decide)),
    (h c main_arg1).trans (keep _ main_arg1 (by decide) (by decide) (by decide) (by decide) (by decide))⟩, by
      funext s
      rcases s with ⟨_, s⟩
      rcases s with s | s
      all_goals exact s.elim0⟩)

end Cert.ReferenceIdeal.Hand

end
-- ==== Proof.Pays.lean ====
module

public import proofs.«01_k».proof.Proof.Gen.KernelIdeal
public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (x : FVec Ideal S256x256 .f32) (e : FVec Ideal S2048x256 .f32) (a : FVec Ideal S256x1 .f32) (b : FVec Ideal S1x2048 .f32)

/-- The distances of a block, at an index. -/
theorem pay9_apply (r : Fin 256) (m : Fin 2048) : k0_pay9 (F := Ideal) x e a b (ix2 r m) = a (ix2 r 0) + b (ix2 0 m) - Ideal.ofBits FTy.f32 0x40000000#32 * ∑ k, x (ix2 r k) * e (ix2 m k) := by
  unfold k0_pay9
  pointwise

/-- The minima of a block, at an index. -/
theorem pay10_apply (r : Fin 256) : k0_pay10 (F := Ideal) x e a b (ix2 r 0) = Finset.univ.fold min (Ideal.ofBits FTy.f32 0x7F800000#32) (fun m => k0_pay9 (F := Ideal) x e a b (ix2 r m)) := by
  unfold k0_pay10
  pointwise

/-- Whether a block has something nearer, at an index. -/
theorem pay11_apply (mn : FVec Ideal S256x1 .f32) (r : Fin 256) : k0_pay11 (F := Ideal) x e a b mn (ix2 r 0) = BitVec.ofBool (decide (k0_pay10 (F := Ideal) x e a b (ix2 r 0) < mn (ix2 r 0))) := by
  unfold k0_pay11
  pointwise

/-- The index kept after a block, at an index. -/
theorem pay12_apply (i : grid0.Coords) (mn : FVec Ideal S256x1 .f32) (ai : IVec S256x1 32) (r : Fin 256) :
   k0_pay12 (F := Ideal) i x e a b mn ai (ix2 r 0) = Scalar.select (k0_pay11 (F := Ideal) x e a b mn (ix2 r 0))
      (IntOp.addi (Finset.univ.fold IntOp.minsi (2147483647#32)
          (fun m : Fin 2048 => if k0_pay9 (F := Ideal) x e a b (ix2 r m) = k0_pay10 (F := Ideal) x e a b (ix2 r 0) then BitVec.ofNat 32 m.val else 2048#32))
        (Scalar.muli (BitVec.ofNat 32 (i 1).val) 2048#32))
      (ai (ix2 r 0)) := by
  unfold k0_pay12
  pointwise

/-- The stored indices, at an index. -/
theorem pay1_apply (ai : IVec S256x1 32) (r : Fin 256) : k0_pay1 ai (ix2 r 0) = ai (ix2 r 0) := by
  unfold k0_pay1
  pointwise
/-- The minimum kept after a block, at an index. -/
theorem pay2_apply (u v : FVec Ideal S256x1 .f32) (c : IVec S256x1 1) (r : Fin 256) : k0_pay2 (F := Ideal) u c v (ix2 r 0) = Scalar.select (c (ix2 r 0)) (u (ix2 r 0)) (v (ix2 r 0)) := by
  unfold k0_pay2
  pointwise
/-- The codes written, at an index. -/
theorem pay3_apply (ai : IVec S256x1 32) (r : Fin 256) : k0_pay3 (F := Ideal) ai (ix3 0 0 r) = ai (ix2 r 0) := by
  unfold k0_pay3
  pointwise
/-- The sum before scaling, at an index. -/
theorem pay4_apply (w : BitVec 32) (u : FVec Ideal S256x1 .f32) (v : FVec Ideal S1x1 .f32) : k0_pay4 (F := Ideal) w u v (ix2 0 0) = Scalar.select (Scalar.cmpi CmpIPredicate.eq w 0#32) 0 (v (ix2 0 0)) + ∑ r : Fin 256, u (ix2 r 0) := by
  unfold k0_pay4
  pointwise
/-- The sum kept, at an index. -/
theorem pay5_apply (w : BitVec 32) (u : FVec Ideal S256x1 .f32) (v : FVec Ideal S1x1 .f32) : k0_pay5 (F := Ideal) w u v (ix2 0 0) = k0_pay4 (F := Ideal) w u v (ix2 0 0) := by
  unfold k0_pay5
  pointwise
/-- The scaled sum, at an index. -/
theorem pay6_apply (w : BitVec 32) (u : FVec Ideal S256x1 .f32) (v : FVec Ideal S1x1 .f32) : k0_pay6 (F := Ideal) w u v (ix2 0 0) = k0_pay4 (F := Ideal) w u v (ix2 0 0) * Ideal.ofBits FTy.f32 0x34800000#32 := by
  unfold k0_pay6
  pointwise
/-- The start of the minimum, at an index. -/
theorem pay7_apply (r : Fin 256) : k0_pay7 (F := Ideal) (ix2 r 0) = Ideal.ofBits FTy.f32 0x7F800000#32 := by
  unfold k0_pay7
  pointwise
/-- The start of the index, at an index. -/
theorem pay8_apply (r : Fin 256) : k0_pay8  (ix2 r 0) = 0#32 := by
  unfold k0_pay8
  pointwise

variable (cd : IVec S1x1x128 32) (E : FVec Ideal S8192x256 .f32) (ct : FVec Ideal S1x8192 .f32)
/-- The one-hot entries of a block, at an index. -/
theorem qpay1_apply (r : Fin 128) (m : Fin 8192) : k1_pay1 (F := Ideal) cd (ix2 r m) = FloatOps.sitofp FTy.f32 (BitVec.setWidth 32 (IntOp.cmpi CmpIPredicate.eq (BitVec.ofNat 32 m.val) (cd (ix3 0 0 r)))) := by
  unfold k1_pay1
  pointwise
/-- The quantised rows of a block, at an index. -/
theorem qpay2_apply (r : Fin 128) (m : Fin 256) : k1_pay2 (F := Ideal) cd E (ix2 r m) = ∑ k, k1_pay1 (F := Ideal) cd (ix2 r k) * E (ix2 k m) := by
  unfold k1_pay2
  pointwise
/-- The counts after a block, at an index. -/
theorem qpay3_apply (i : grid1.Coords) (m : Fin 8192) : k1_pay3 (F := Ideal) i cd ct (ix2 0 m) = Scalar.select (Scalar.cmpi CmpIPredicate.eq (BitVec.ofNat 32 (i 0).val) 0#32) 0 (ct (ix2 0 m)) +
      ∑ r, k1_pay1 (F := Ideal) cd (ix2 r m) := by
  unfold k1_pay3
  pointwise
/-- The counts kept, at an index. -/
theorem qpay4_apply (i : grid1.Coords) (m : Fin 8192) : k1_pay4 (F := Ideal) i cd ct (ix2 0 m) = k1_pay3 (F := Ideal) i cd ct (ix2 0 m) := by
  unfold k1_pay4
  pointwise
/-- The perplexity from the counts, at an index. -/
theorem qpay5_apply (i : grid1.Coords) : k1_pay5 (F := Ideal) i cd ct (ix2 0 0) = Ideal.exp (0 - ∑ m, k1_pay3 (F := Ideal) i cd ct (ix2 0 m) * Ideal.ofBits FTy.f32 0x39800000#32 *
      Ideal.log (k1_pay3 (F := Ideal) i cd ct (ix2 0 m) * Ideal.ofBits FTy.f32 0x39800000#32 + Ideal.ofBits FTy.f32 0x2EDBE6FF#32)) := by
  unfold k1_pay5
  pointwise

end Cert.KernelIdeal.Hand

end
-- ==== Proof.ArgMin.lean ====
module

public import Idealize.ShloMosaic.Lib.Pointwise
public import Idealize.ShloMosaic.PureOps.Ideal.Laws

@[expose] public section

noncomputable section

namespace Cert.Near

open Idealize.ShloMosaic

/-! ## The first index of a least value, over an initial stretch of a sequence -/

/-- `v` is the least of the first `N` values of `d` and `i` the first index at it; or no value is below `⊤` and `i` is 0. -/
def First (d : ℕ → EReal) (N : ℕ) (v : EReal) (i : ℕ) : Prop :=
  (∀ m < N, v ≤ d m) ∧ (∀ m < i, v < d m) ∧ (i < N ∧ d i = v ∨ i = 0 ∧ v = ⊤)

/-- Before any codeword is seen the least distance is plus infinity and the index is zero. -/
theorem First.start (d : ℕ → EReal) : First d 0 ⊤ 0 :=
  ⟨fun m h => absurd h (Nat.not_lt_zero m), fun m h => absurd h (Nat.not_lt_zero m), .inr ⟨rfl, rfl⟩⟩

/-- Over a nonempty stretch the value is attained. -/
theorem First.attained {d : ℕ → EReal} {N : ℕ} {v : EReal} {i : ℕ} (h : First d N v i) (hN : 0 < N) : i < N ∧ d i = v := by
  rcases h with ⟨h1, h2, h3 | ⟨rfl, rfl⟩⟩
  · exact h3
  · exact ⟨hN, top_le_iff.mp (h1 0 hN)⟩

/-- The first index of the least value is one. -/
theorem First.index_eq {d : ℕ → EReal} {N : ℕ} {v w : EReal} {i j : ℕ} (hN : 0 < N) (h : First d N v i) (h' : First d N w j) : i = j := by
  obtain ⟨hi, ei⟩ := h.attained hN
  obtain ⟨hj, ej⟩ := h'.attained hN
  have hvw : v = w := le_antisymm (ej ▸ h.1 j hj) (ei ▸ h'.1 i hi)
  rcases lt_trichotomy i j with hlt | he | hlt
  · exact absurd (h'.2.1 i hlt) (by rw [ei, hvw]; exact lt_irrefl _)
  · exact he
  · exact absurd (h.2.1 j hlt) (by rw [ej, hvw]; exact lt_irrefl _)

/-- One more block of `B` values: `b` is its least value and `off + j` the first index at it. -/
theorem First.block {d : ℕ → EReal} {off B : ℕ} {v b : EReal} {i j : ℕ} (h : First d off v i) (hj : j < B) (hb : d (off + j) = b)
    (hle : ∀ k < B, b ≤ d (off + k)) (hfirst : ∀ k < j, d (off + k) ≠ b) :
    First d (off + B) (if b < v then b else v) (if b < v then off + j else i) := by
  obtain ⟨h1, h2, h3⟩ := h
  by_cases hlt : b < v
  · rw [if_pos hlt, if_pos hlt]
    refine ⟨fun m hm => ?_, fun m hm => ?_, .inl ⟨by omega, hb⟩⟩
    · by_cases hmo : m < off
      · exact hlt.le.trans (h1 m hmo)
      · obtain ⟨k, rfl⟩ := Nat.exists_eq_add_of_le (Nat.not_lt.mp hmo)
        exact hle k (by omega)
    · by_cases hmo : m < off
      · exact hlt.trans_le (h1 m hmo)
      · obtain ⟨k, rfl⟩ := Nat.exists_eq_add_of_le (Nat.not_lt.mp hmo)
        exact lt_of_le_of_ne (hle k (by omega)) (Ne.symm (hfirst k (by omega)))
  · rw [if_neg hlt, if_neg hlt]
    refine ⟨fun m hm => ?_, h2, ?_⟩
    · by_cases hmo : m < off
      · exact h1 m hmo
      · obtain ⟨k, rfl⟩ := Nat.exists_eq_add_of_le (Nat.not_lt.mp hmo)
        exact (not_lt.mp hlt).trans (hle k (by omega))
    · rcases h3 with ⟨h3, h4⟩ | h3
      · exact .inl ⟨by omega, h4⟩
      · exact .inr h3

/-! ## Words that name an index -/

/-- A small natural number is kept by the signed reading of its word. -/
theorem toInt_ofNat (k : ℕ) (hk : k < 2 ^ 31) : (BitVec.ofNat 32 k).toInt = k := by
  have hn : (BitVec.ofNat 32 k).toNat = k := by rw [BitVec.toNat_ofNat]; omega
  rw [BitVec.toInt_eq_toNat_cond, hn]
  split <;> omega

/-- The signed minimum is one of the two words. -/
theorem minsi_or (a b : BitVec 32) : IntOp.minsi a b = a ∨ IntOp.minsi a b = b := by
  unfold IntOp.minsi; split <;> simp

/-- The signed minimum is at most either word. -/
theorem minsi_le (a b : BitVec 32) : (IntOp.minsi a b).toInt ≤ a.toInt ∧ (IntOp.minsi a b).toInt ≤ b.toInt := by
  unfold IntOp.minsi
  split
  · rename_i h; rw [BitVec.slt_iff_toInt_lt] at h; omega
  · rename_i h; rw [BitVec.slt_iff_toInt_lt] at h; omega

/-- The signed minimum over a set is one of the words, and above none. -/
theorem fold_minsi [Std.Commutative (IntOp.minsi : BitVec 32 → BitVec 32 → BitVec 32)] [Std.Associative (IntOp.minsi : BitVec 32 → BitVec 32 → BitVec 32)] {ι : Type} [DecidableEq ι] (S : Finset ι) (b : BitVec 32) (f : ι → BitVec 32) :
    (S.fold IntOp.minsi b f = b ∨ ∃ x ∈ S, S.fold IntOp.minsi b f = f x) ∧ ∀ x ∈ S, (S.fold IntOp.minsi b f).toInt ≤ (f x).toInt := by
  induction S using Finset.induction_on with
  | empty => exact ⟨.inl rfl, fun x hx => absurd hx (Finset.notMem_empty x)⟩
  | insert a S ha ih =>
    rw [Finset.fold_insert ha]
    refine ⟨?_, fun x hx => ?_⟩
    · rcases minsi_or (f a) (S.fold IntOp.minsi b f) with h | h
      · exact .inr ⟨a, Finset.mem_insert_self a S, h⟩
      · rcases ih.1 with h' | ⟨x, hx, h'⟩
        · exact .inl (h.trans h')
        · exact .inr ⟨x, Finset.mem_insert_of_mem hx, h.trans h'⟩
    · rcases Finset.mem_insert.mp hx with rfl | hx
      · exact (minsi_le _ _).1
      · exact (minsi_le _ _).2.trans (ih.2 x hx)

/-- Where each index that is marked gives itself and every other one `N`, the signed minimum is the first one marked. -/
theorem fold_minsi_first [Std.Commutative (IntOp.minsi : BitVec 32 → BitVec 32 → BitVec 32)] [Std.Associative (IntOp.minsi : BitVec 32 → BitVec 32 → BitVec 32)] {N : ℕ} (hN : N < 2 ^ 31 - 1) (p : Fin N → Prop) [DecidablePred p] (j : Fin N) (hj : p j) (hfirst : ∀ k < j, ¬p k) (b w : BitVec 32)
    (hb : b.toInt = 2 ^ 31 - 1) (hw : w = BitVec.ofNat 32 N) :
    Finset.univ.fold IntOp.minsi b (fun k : Fin N => if p k then BitVec.ofNat 32 k.val else w) = BitVec.ofNat 32 j.val := by
  subst hw
  obtain ⟨h1, h2⟩ := fold_minsi Finset.univ b (fun k : Fin N => if p k then BitVec.ofNat 32 k.val else BitVec.ofNat 32 N)
  have h3 := h2 j (Finset.mem_univ j)
  rw [if_pos hj, toInt_ofNat j.val (by omega)] at h3
  rcases h1 with h1 | ⟨k, -, h1⟩
  · rw [h1, hb] at h3; omega
  · rw [h1] at h3 ⊢
    by_cases hk : p k
    · rw [if_pos hk] at h3 ⊢
      rw [toInt_ofNat k.val (by omega)] at h3
      rcases lt_or_eq_of_le (show k.val ≤ j.val by omega) with hlt | he
      · exact absurd hk (hfirst k (Fin.lt_def.mpr hlt))
      · rw [he]
    · rw [if_neg hk, toInt_ofNat N (by omega)] at h3
      omega

/-! ## The least value of a block and its first index -/

/-- The least of finitely many values is attained, at a first index. -/
theorem fold_min_first {N : ℕ} (hN : 0 < N) (f : Fin N → EReal) : ∃ j : Fin N, f j = Finset.univ.fold min ⊤ f
    ∧ (∀ k, Finset.univ.fold min ⊤ f ≤ f k) ∧ ∀ k < j, ¬f k = Finset.univ.fold min ⊤ f := by
  have hle : ∀ k, Finset.univ.fold min ⊤ f ≤ f k := fun k => (Finset.fold_min_le _).mpr (.inr ⟨k, Finset.mem_univ k, le_rfl⟩)
  have hex : ∃ k, f k = Finset.univ.fold min ⊤ f := by
    obtain ⟨k, -, hk⟩ := Finset.exists_min_image (Finset.univ : Finset (Fin N)) f ⟨⟨0, hN⟩, Finset.mem_univ _⟩
    exact ⟨k, le_antisymm (Finset.le_fold_min _ |>.mpr ⟨le_top, fun x hx => hk x hx⟩) (hle k)⟩
  obtain ⟨j, hj, hmin⟩ : ∃ j : Fin N, f j = Finset.univ.fold min ⊤ f ∧ ∀ k < j, ¬f k = Finset.univ.fold min ⊤ f := by
    classical
    have hne : (Finset.univ.filter fun k => f k = Finset.univ.fold min ⊤ f).Nonempty := by
      obtain ⟨k, hk⟩ := hex; exact ⟨k, Finset.mem_filter.mpr ⟨Finset.mem_univ k, hk⟩⟩
    refine ⟨Finset.min' _ hne, (Finset.mem_filter.mp (Finset.min'_mem _ hne)).2, fun k hk hk' => ?_⟩
    exact absurd (Finset.min'_le _ k (Finset.mem_filter.mpr ⟨Finset.mem_univ k, hk'⟩)) (not_le.mpr hk)
  exact ⟨j, hj, hle, hmin⟩

/-! ## A fold by the lexicographic minimum -/

/-- Pairs ordered by the value, then by the index read as a signed number. -/
def Lex (a b : EReal × BitVec 32) : Prop := a.1 < b.1 ∨ a.1 = b.1 ∧ a.2.toInt ≤ b.2.toInt

/-- A pair comes no later than itself. -/
theorem Lex.refl (a : EReal × BitVec 32) : Lex a a := .inr ⟨rfl, le_rfl⟩

/-- The order of pairs is transitive. -/
theorem Lex.trans {a b c : EReal × BitVec 32} (h : Lex a b) (h' : Lex b c) : Lex a c := by
  rcases h with h | ⟨h, g⟩ <;> rcases h' with h' | ⟨h', g'⟩
  · exact .inl (h.trans h')
  · exact .inl (h' ▸ h)
  · exact .inl (h ▸ h')
  · exact .inr ⟨h.trans h', g.trans g'⟩

/-- A body that returns the lesser of its two pairs folds a list to a pair of it, or the initial one, and above none of them. -/
theorem foldl_lex (f : EReal × BitVec 32 → EReal × BitVec 32 → EReal × BitVec 32)
    (hf : ∀ a b, (f a b = a ∨ f a b = b) ∧ Lex (f a b) a ∧ Lex (f a b) b) (l : List (EReal × BitVec 32)) (b : EReal × BitVec 32) :
    (l.foldl f b = b ∨ l.foldl f b ∈ l) ∧ Lex (l.foldl f b) b ∧ ∀ p ∈ l, Lex (l.foldl f b) p := by
  induction l generalizing b with
  | nil => exact ⟨.inl rfl, Lex.refl b, fun p hp => absurd hp List.not_mem_nil⟩
  | cons a l ih =>
    obtain ⟨h1, h2, h3⟩ := ih (f b a)
    obtain ⟨g1, g2, g3⟩ := hf b a
    rw [List.foldl_cons]
    refine ⟨?_, h2.trans g2, fun p hp => ?_⟩
    · rcases h1 with h1 | h1
      · rcases g1 with g1 | g1
        · exact .inl (h1.trans g1)
        · exact .inr (List.mem_cons.mpr (.inl (h1.trans g1)))
      · exact .inr (List.mem_cons_of_mem a h1)
    · rcases List.mem_cons.mp hp with rfl | hp
      · exact h2.trans g3
      · exact h3 p hp

/-- Over a list whose pairs are the values of `d` with their indices, it is the least value and its first index. -/
theorem foldl_first (f : EReal × BitVec 32 → EReal × BitVec 32 → EReal × BitVec 32)
    (hf : ∀ a b, (f a b = a ∨ f a b = b) ∧ Lex (f a b) a ∧ Lex (f a b) b) (d : ℕ → EReal) (N : ℕ) (hN : 0 < N) (hN' : N < 2 ^ 31)
    (l : List (EReal × BitVec 32)) (hl : ∀ p, p ∈ l ↔ ∃ m < N, p = (d m, BitVec.ofNat 32 m)) :
    ∃ i, First d N (l.foldl f (⊤, 0#32)).1 i ∧ (l.foldl f (⊤, 0#32)).2 = BitVec.ofNat 32 i := by
  obtain ⟨h1, h2, h3⟩ := foldl_lex f hf l (⊤, 0#32)
  generalize l.foldl f (⊤, 0#32) = r at h1 h2 h3
  have hle : ∀ m < N, Lex r (d m, BitVec.ofNat 32 m) := fun m hm => h3 _ ((hl _).mpr ⟨m, hm, rfl⟩)
  have hle1 : ∀ m < N, r.1 ≤ d m := fun m hm => by
    rcases hle m hm with h | ⟨h, -⟩
    · exact h.le
    · exact h.le
  rcases h1 with rfl | h1
  · exact ⟨0, ⟨hle1, fun m hm => absurd hm (Nat.not_lt_zero m), .inr ⟨rfl, rfl⟩⟩, rfl⟩
  · obtain ⟨i, hi, rfl⟩ := (hl r).mp h1
    refine ⟨i, ⟨hle1, fun m hm => ?_, .inl ⟨hi, rfl⟩⟩, rfl⟩
    rcases hle m (hm.trans hi) with h | ⟨-, h⟩
    · exact h
    · simp only [toInt_ofNat i (by omega), toInt_ofNat m (by omega)] at h
      omega

end Cert.Near

end
-- ==== Proof.Near.lean ====
module

public import proofs.«01_k».proof.Proof.ArgMin

@[expose] public section

noncomputable section

namespace Cert.Near

open Idealize.ShloMosaic

/-! ## Literals -/

/-- The factor two. -/
def two : EReal := Ideal.ofBits .f32 0x40000000#32

/-- The word of two. -/
theorem two_eq : two = ((2 : ℝ) : EReal) := by
  unfold two; simp [Ideal.ofBits, Ideal.ieee, -EReal.coe_mul]; norm_num
/-- The word of plus infinity. -/
theorem inf_eq : Ideal.ofBits .f32 0x7F800000#32 = ⊤ := by simp [Ideal.ofBits, Ideal.ieee]
/-- The word of a quarter. -/
theorem quarter_eq : Ideal.ofBits .f32 0x3E800000#32 = ((1 / 4 : ℝ) : EReal) := by
  simp [Ideal.ofBits, Ideal.ieee, -EReal.coe_mul]; norm_num
/-- The word of the number of entries. -/
theorem count_eq : Ideal.ofBits .f32 0x49800000#32 = ((1048576 : ℝ) : EReal) := by
  simp [Ideal.ofBits, Ideal.ieee, -EReal.coe_mul]; norm_num
/-- The word of the scale of the loss. -/
theorem scale_eq : Ideal.ofBits .f32 0x34800000#32 = ((1 / 4194304 : ℝ) : EReal) := by
  simp [Ideal.ofBits, Ideal.ieee, -EReal.coe_mul]; norm_num
/-- The word of the number of rows. -/
theorem rows_eq : Ideal.ofBits .f32 0x45800000#32 = ((4096 : ℝ) : EReal) := by
  simp [Ideal.ofBits, Ideal.ieee, -EReal.coe_mul]; norm_num
/-- The word of one over the number of rows. -/
theorem share_eq : Ideal.ofBits .f32 0x39800000#32 = ((1 / 4096 : ℝ) : EReal) := by
  simp [Ideal.ofBits, Ideal.ieee, -EReal.coe_mul]; norm_num

/-! ## The distances of the points from the codewords, and the nearest one -/

/-- The points, -/
abbrev Pts : Type := (⟨3, ![4, 1024, 256]⟩ : Shape).Idx → EReal
/-- and the codewords. -/
abbrev Cws : Type := (⟨2, ![8192, 256]⟩ : Shape).Idx → EReal

/-- Coordinate `k` of point `n`. -/
def pt (x : Pts) (n : Fin 4096) (k : Fin 256) : EReal := x (ix3 ⟨n.val / 1024, by omega⟩ ⟨n.val % 1024, by omega⟩ k)

/-- The distance of point `n` from codeword `m`, expanded. -/
def dist (x : Pts) (e : Cws) (n : Fin 4096) (m : Fin 8192) : EReal :=
  ∑ k, pt x n k * pt x n k + ∑ k, e (ix2 m k) * e (ix2 m k) - two * ∑ k, pt x n k * e (ix2 m k)

/-- Point `n`'s distances as a sequence. -/
def row (x : Pts) (e : Cws) (n : Fin 4096) (m : ℕ) : EReal := if h : m < 8192 then dist x e n ⟨m, h⟩ else ⊤

/-- The row of distances at a codeword. -/
theorem row_of (x : Pts) (e : Cws) (n : Fin 4096) (m : Fin 8192) : row x e n m.val = dist x e n m := dif_pos m.isLt

/-- Every point has a first nearest codeword. -/
theorem exists_first (x : Pts) (e : Cws) (n : Fin 4096) : ∃ i v, First (row x e n) 8192 v i := by
  obtain ⟨j, h1, h2, h3⟩ := fold_min_first (by decide : 0 < 8192) (dist x e n)
  refine ⟨j.val, _, fun m hm => ?_, fun m hm => ?_, .inl ⟨j.isLt, (row_of x e n j).trans h1⟩⟩
  · exact (h2 ⟨m, hm⟩).trans_eq (row_of x e n ⟨m, hm⟩).symm
  · have hm' : m < 8192 := hm.trans j.isLt
    rw [row_of x e n ⟨m, hm'⟩]
    exact lt_of_le_of_ne (h2 _) (Ne.symm (h3 ⟨m, hm'⟩ (Fin.lt_def.mpr hm)))

/-- The nearest codeword of point `n`, the first one if several are. -/
def near (x : Pts) (e : Cws) (n : Fin 4096) : ℕ := (exists_first x e n).choose

/-- The nearest index is the first of the least distance. -/
theorem near_spec (x : Pts) (e : Cws) (n : Fin 4096) : ∃ v, First (row x e n) 8192 v (near x e n) := (exists_first x e n).choose_spec
/-- The nearest index is that of a codeword. -/
theorem near_lt (x : Pts) (e : Cws) (n : Fin 4096) : near x e n < 8192 := by
  obtain ⟨v, h⟩ := near_spec x e n
  exact (h.attained (by decide)).1
/-- Any first index of the least distance is the nearest index. -/
theorem near_eq {x : Pts} {e : Cws} {n : Fin 4096} {v : EReal} {i : ℕ} (h : First (row x e n) 8192 v i) : i = near x e n := by
  obtain ⟨w, h'⟩ := near_spec x e n
  exact First.index_eq (by decide) h h'
/-- The nearest codeword as an index. -/
def nearest (x : Pts) (e : Cws) (n : Fin 4096) : Fin 8192 := ⟨near x e n, near_lt x e n⟩
/-- The least distance is that to the nearest codeword. -/
theorem near_val {x : Pts} {e : Cws} {n : Fin 4096} {v : EReal} {i : ℕ} (h : First (row x e n) 8192 v i) : v = dist x e n (nearest x e n) := by
  obtain ⟨h1, h2⟩ := h.attained (by decide)
  rw [← h2, near_eq h]; exact row_of x e n (nearest x e n)

/-- A sum of reals read as an extended real is the sum of the readings. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- One at the index, zero elsewhere. -/
def hot (i m : ℕ) : EReal := if m = i then 1 else 0

/-- Indices of codewords are equal when their words are. -/
theorem ofNat_inj {i m : ℕ} (hi : i < 8192) (hm : m < 8192) : BitVec.ofNat 32 i = BitVec.ofNat 32 m ↔ i = m := by
  constructor
  · intro h
    have := congrArg BitVec.toNat h
    rw [BitVec.toNat_ofNat, BitVec.toNat_ofNat] at this
    omega
  · rintro rfl; rfl

/-- The host's comparison, converted. -/
theorem hot_host {i m : ℕ} (hi : i < 8192) (hm : m < 8192) :
    (FloatOps.uitofp .f32 (IntOp.cmpi .eq (BitVec.ofNat 32 i) (BitVec.ofNat 32 m)) : Ideal .f32) = hot i m := by
  unfold hot
  by_cases h : m = i
  · subst h; rw [if_pos rfl, show IntOp.cmpi .eq (BitVec.ofNat 32 m) (BitVec.ofNat 32 m) = 1#1 by simp [IntOp.cmpi]]
    show (((1#1 : BitVec 1).toNat : ℝ) : EReal) = 1
    simp
  · rw [if_neg h, show IntOp.cmpi .eq (BitVec.ofNat 32 i) (BitVec.ofNat 32 m) = 0#1 by
      simp only [IntOp.cmpi, beq_eq_false_iff_ne.mpr (fun h' => h ((ofNat_inj hi hm).mp h').symm)]; rfl]
    show (((0#1 : BitVec 1).toNat : ℝ) : EReal) = 0
    simp

/-- The kernel's comparison, widened and converted. -/
theorem hot_kernel {i m : ℕ} (hi : i < 8192) (hm : m < 8192) :
    (FloatOps.sitofp .f32 (BitVec.setWidth 32 (IntOp.cmpi .eq (BitVec.ofNat 32 m) (BitVec.ofNat 32 i))) : Ideal .f32) = hot i m := by
  unfold hot
  by_cases h : m = i
  · subst h; rw [if_pos rfl, show IntOp.cmpi .eq (BitVec.ofNat 32 m) (BitVec.ofNat 32 m) = 1#1 by simp [IntOp.cmpi]]
    show (((BitVec.setWidth 32 (1#1 : BitVec 1)).toInt : ℝ) : EReal) = 1
    rw [show (BitVec.setWidth 32 (1#1 : BitVec 1)).toInt = 1 by decide]; simp
  · rw [if_neg h, show IntOp.cmpi .eq (BitVec.ofNat 32 m) (BitVec.ofNat 32 i) = 0#1 by
      simp only [IntOp.cmpi, beq_eq_false_iff_ne.mpr (fun h' => h ((ofNat_inj hm hi).mp h'))]; rfl]
    show (((BitVec.setWidth 32 (0#1 : BitVec 1)).toInt : ℝ) : EReal) = 0
    rw [show (BitVec.setWidth 32 (0#1 : BitVec 1)).toInt = 0 by decide]; simp

/-- A one-hot row times a column is the column at the index. -/
theorem sum_hot (i : Fin 8192) (f : Fin 8192 → EReal) : ∑ m : Fin 8192, hot i.val m.val * f m = f i := by
  rw [Finset.sum_eq_single i (fun m _ h => by unfold hot; rw [if_neg (fun h' => h (Fin.ext h')), zero_mul])
    (fun h => absurd (Finset.mem_univ i) h)]
  unfold hot; rw [if_pos rfl, one_mul]

end Cert.Near

end
-- ==== Proof.KerHost.lean ====
module

public import proofs.«01_k».proof.Proof.Main
public import proofs.«01_k».proof.Proof.Pays
public import proofs.«01_k».proof.Proof.Near

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Near (Pts Cws pt row near nearest First hot two)

/-! ## The host stretches at an index -/

/-- The points as rows, -/
def hPts (x : FVec Ideal S4x1024x256 .f32) : FVec Ideal S4096x256 .f32 := shapeCast S4096x256 x shapeCasts_S4x1024x256_S4096x256
/-- their squared lengths, -/
def hPtSq (x : FVec Ideal S4x1024x256 .f32) : FVec Ideal S4096x1 .f32 :=
  broadcastInDim S4096x1 ![0] bcast_S4096_S4096x1_0
    (Host.reduceAdd (mulf (hPts x) (hPts x)) (constant S_ .f32 0x00000000#32) reducesTo_S4096x256_S4096_d1 h_S_)
/-- and the codewords' squared lengths. -/
def hCwSq (e : FVec Ideal S8192x256 .f32) : FVec Ideal S1x8192 .f32 :=
  shapeCast S1x8192 (Host.reduceAdd (mulf e e) (constant S_ .f32 0x00000000#32) reducesTo_S8192x256_S8192_d1 h_S_) shapeCasts_S8192_S1x8192

/-- The points as rows, at an index. -/
theorem hPts_apply (x : FVec Ideal S4x1024x256 .f32) (n : Fin 4096) (k : Fin 256) : hPts x (ix2 n k) = pt x n k := by
  unfold hPts pt
  pointwise
/-- The squared length of a point. -/
theorem hPtSq_apply (x : FVec Ideal S4x1024x256 .f32) (n : Fin 4096) : hPtSq x (ix2 n 0) = ∑ k, pt x n k * pt x n k := by
  unfold hPtSq
  pointwise
  simp only [hPts_apply]
/-- The squared length of a codeword. -/
theorem hCwSq_apply (e : FVec Ideal S8192x256 .f32) (m : Fin 8192) : hCwSq e (ix2 0 m) = ∑ k, e (ix2 m k) * e (ix2 m k) := by
  unfold hCwSq
  pointwise

variable (V : Valuation τ sig (Elt Ideal))

/-- The host operations leave the points as rows. -/
theorem after0_v0 : after hostOps0 V (Proc.devRef .tc main_v0) = hPts (V (Proc.devRef .tc main_arg0)) := by
  after_results_simp
  try rfl
/-- The host operations leave the squared lengths of the points. -/
theorem after0_v5 : after hostOps0 V (Proc.devRef .tc main_v5) = hPtSq (V (Proc.devRef .tc main_arg0)) := by
  after_results_simp
  try rfl
/-- The host operations leave the squared lengths of the codewords. -/
theorem after0_v6 : after hostOps0 V (Proc.devRef .tc main_v6) = hCwSq (V (Proc.devRef .tc main_arg1)) := by
  after_results_simp
  try rfl
/-- The host operations leave the codes in blocks of rows. -/
theorem after1_v8 : after hostOps1 V (Proc.devRef .tc main_v8) = shapeCast S32x1x128 (V (Proc.devRef .tc main_v7_0)) shapeCasts_S16x1x256_S32x1x128 := by
  after_results_simp
  try rfl
/-- The host operations leave the codes. -/
theorem after2_v10 : after hostOps2 V (Proc.devRef .tc main_v10) = shapeCast S4x1024 (V (Proc.devRef .tc main_v7_0)) shapeCasts_S16x1x256_S4x1024 := by
  after_results_simp
  try rfl
/-- The host operations leave the quantised rows. -/
theorem after2_v11 : after hostOps2 V (Proc.devRef .tc main_v11) = shapeCast S4x1024x256 (V (Proc.devRef .tc main_v9_1)) shapeCasts_S4096x256_S4x1024x256 := by
  after_results_simp
  try rfl
/-- The host operations leave the one-hot rows. -/
theorem after2_v12 : after hostOps2 V (Proc.devRef .tc main_v12) = shapeCast S4x1024x8192 (V (Proc.devRef .tc main_v9_0)) shapeCasts_S4096x8192_S4x1024x8192 := by
  after_results_simp
  try rfl
/-- The host operations leave the loss. -/
theorem after2_v13 : after hostOps2 V (Proc.devRef .tc main_v13) = shapeCast S_ (V (Proc.devRef .tc main_v7_1)) shapeCasts_S1x1_S_ := by
  after_results_simp
  try rfl
/-- The host operations leave the perplexity. -/
theorem after2_v14 : after hostOps2 V (Proc.devRef .tc main_v14) = shapeCast S_ (V (Proc.devRef .tc main_v9_2)) shapeCasts_S1x1_S_ := by
  after_results_simp
  try rfl

/-! ## The reshapes at an index -/

variable {α : Type}

/-- The codes in blocks of rows after the change of shape, at an index. -/
theorem cast_v8 (f : S16x1x256.Idx → α) (i : Fin 32) (r : Fin 128) :
    shapeCast S32x1x128 f shapeCasts_S16x1x256_S32x1x128 (ix3 i 0 r) = f (ix3 ⟨i.val / 2, by omega⟩ 0 ⟨i.val % 2 * 128 + r.val, by omega⟩) := by
  pointwise
/-- The codes after the change of shape, at an index. -/
theorem cast_v10 (f : S16x1x256.Idx → α) (a : Fin 4) (b : Fin 1024) :
    shapeCast S4x1024 f shapeCasts_S16x1x256_S4x1024 (ix2 a b) = f (ix3 ⟨a.val * 4 + b.val / 256, by omega⟩ 0 ⟨b.val % 256, by omega⟩) := by
  pointwise
/-- The quantised rows after the change of shape, at an index. -/
theorem cast_v11 (f : S4096x256.Idx → α) (a : Fin 4) (b : Fin 1024) (k : Fin 256) :
    shapeCast S4x1024x256 f shapeCasts_S4096x256_S4x1024x256 (ix3 a b k) = f (ix2 ⟨a.val * 1024 + b.val, by omega⟩ k) := by
  pointwise
/-- The one-hot rows after the change of shape, at an index. -/
theorem cast_v12 (f : S4096x8192.Idx → α) (a : Fin 4) (b : Fin 1024) (k : Fin 8192) :
    shapeCast S4x1024x8192 f shapeCasts_S4096x8192_S4x1024x8192 (ix3 a b k) = f (ix2 ⟨a.val * 1024 + b.val, by omega⟩ k) := by
  pointwise
/-- The one entry of a one by one array as a scalar. -/
theorem cast_scalar (f : S1x1.Idx → α) : shapeCast S_ f shapeCasts_S1x1_S_ ix0 = f (ix2 0 0) := by
  pointwise

end Cert.KernelIdeal.Hand

end
-- ==== Proof.KerBlk.lean ====
module

public import proofs.«01_k».proof.Proof.KerHost

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Near (Pts Cws pt row near nearest First hot two)

/-! ## The windows' block indices -/

/-- The first grid has 64 points. -/
theorem N0' : grid0.N = 64 := N0_eq
/-- The second grid has 32 points. -/
theorem N1' : grid1.N = 32 := N_1
/-- A step of the first launch is below 64. -/
theorem lt64 (t : Fin cfg0.N) : t.val < 64 := t.isLt.trans_eq N0_eq
/-- A step of the second launch is below 32. -/
theorem lt32 (t : Fin cfg1.N) : t.val < 32 := t.isLt.trans_eq N_1

/-- The block of the squared lengths of the points at a step. -/
theorem idx0_0 : ∀ t : Fin cfg0.N, win0_0.index t (0 : Fin 2) = t.val / 4 ∧ win0_0.index t (1 : Fin 2) = 0 := (by decide +kernel : ∀ t : Fin grid0.N, _)
/-- The block of the squared lengths of the codewords at a step. -/
theorem idx0_1 : ∀ t : Fin cfg0.N, win0_1.index t (0 : Fin 2) = 0 ∧ win0_1.index t (1 : Fin 2) = t.val % 4 := (by decide +kernel : ∀ t : Fin grid0.N, _)
/-- The block of the points at a step. -/
theorem idx0_2 : ∀ t : Fin cfg0.N, win0_2.index t (0 : Fin 2) = t.val / 4 ∧ win0_2.index t (1 : Fin 2) = 0 := (by decide +kernel : ∀ t : Fin grid0.N, _)
/-- The block of the codewords at a step. -/
theorem idx0_3 : ∀ t : Fin cfg0.N, win0_3.index t (0 : Fin 2) = t.val % 4 ∧ win0_3.index t (1 : Fin 2) = 0 := (by decide +kernel : ∀ t : Fin grid0.N, _)
/-- The block of the codes at a step. -/
theorem idx0_4 : ∀ t : Fin cfg0.N, win0_4.index t (0 : Fin 3) = t.val / 4 ∧ win0_4.index t (1 : Fin 3) = 0 ∧ win0_4.index t (2 : Fin 3) = 0 := (by decide +kernel : ∀ t : Fin grid0.N, _)
/-- The block of the loss at a step. -/
theorem idx0_5 : ∀ t : Fin cfg0.N, win0_5.index t (0 : Fin 2) = 0 ∧ win0_5.index t (1 : Fin 2) = 0 := (by decide +kernel : ∀ t : Fin grid0.N, _)
/-- The block of the codes at a step. -/
theorem idx1_0 : ∀ t : Fin cfg1.N, win1_0.index t (0 : Fin 3) = t.val ∧ win1_0.index t (1 : Fin 3) = 0 ∧ win1_0.index t (2 : Fin 3) = 0 := (by decide +kernel : ∀ t : Fin grid1.N, _)
/-- The block of the codewords at a step. -/
theorem idx1_1 : ∀ t : Fin cfg1.N, win1_1.index t (0 : Fin 2) = 0 ∧ win1_1.index t (1 : Fin 2) = 0 := (by decide +kernel : ∀ t : Fin grid1.N, _)
/-- The block of the one-hot rows at a step. -/
theorem idx1_2 : ∀ t : Fin cfg1.N, win1_2.index t (0 : Fin 2) = t.val ∧ win1_2.index t (1 : Fin 2) = 0 := (by decide +kernel : ∀ t : Fin grid1.N, _)
/-- The block of the quantised rows at a step. -/
theorem idx1_3 : ∀ t : Fin cfg1.N, win1_3.index t (0 : Fin 2) = t.val ∧ win1_3.index t (1 : Fin 2) = 0 := (by decide +kernel : ∀ t : Fin grid1.N, _)
/-- The block of the perplexity at a step. -/
theorem idx1_4 : ∀ t : Fin cfg1.N, win1_4.index t (0 : Fin 2) = 0 ∧ win1_4.index t (1 : Fin 2) = 0 := (by decide +kernel : ∀ t : Fin grid1.N, _)

/-! ## A block's index in its array -/

/-- Where an entry of the block of the squared lengths of the points lies in its array. -/
theorem emb0_0 (t : Fin cfg0.N) (r : Fin 256) : ((cfg0.win 0).blk t).view.emb (ix2 r 0) = ix2 (⟨t.val / 4 * 256 + r.val, by have := lt64 t; omega⟩ : Fin 4096) (0 : Fin 1) := by
  obtain ⟨e0, e1⟩ := idx0_0 t
  funext a; refine Fin.ext ?_
  match a with
  | ⟨0, _⟩ => show win0_0.index t (0 : Fin 2) * 256 + 1 * r.val = t.val / 4 * 256 + r.val; omega
  | ⟨1, _⟩ => show win0_0.index t (1 : Fin 2) * 1 + 1 * 0 = 0; omega

/-- Where an entry of the block of the squared lengths of the codewords lies in its array. -/
theorem emb0_1 (t : Fin cfg0.N) (m : Fin 2048) : ((cfg0.win 1).blk t).view.emb (ix2 0 m) = ix2 (0 : Fin 1) (⟨t.val % 4 * 2048 + m.val, by omega⟩ : Fin 8192) := by
  obtain ⟨e0, e1⟩ := idx0_1 t
  funext a; refine Fin.ext ?_
  match a with
  | ⟨0, _⟩ => show win0_1.index t (0 : Fin 2) * 1 + 1 * 0 = 0; omega
  | ⟨1, _⟩ => show win0_1.index t (1 : Fin 2) * 2048 + 1 * m.val = t.val % 4 * 2048 + m.val; omega

/-- Where an entry of the block of the points lies in its array. -/
theorem emb0_2 (t : Fin cfg0.N) (r k : Fin 256) : ((cfg0.win 2).blk t).view.emb (ix2 r k) = ix2 (⟨t.val / 4 * 256 + r.val, by have := lt64 t; omega⟩ : Fin 4096) k := by
  obtain ⟨e0, e1⟩ := idx0_2 t
  funext a; refine Fin.ext ?_
  match a with
  | ⟨0, _⟩ => show win0_2.index t (0 : Fin 2) * 256 + 1 * r.val = t.val / 4 * 256 + r.val; omega
  | ⟨1, _⟩ => show win0_2.index t (1 : Fin 2) * 256 + 1 * k.val = k.val; omega

/-- Where an entry of the block of the codewords lies in its array. -/
theorem emb0_3 (t : Fin cfg0.N) (m : Fin 2048) (k : Fin 256) : ((cfg0.win 3).blk t).view.emb (ix2 m k) = ix2 (⟨t.val % 4 * 2048 + m.val, by omega⟩ : Fin 8192) k := by
  obtain ⟨e0, e1⟩ := idx0_3 t
  funext a; refine Fin.ext ?_
  match a with
  | ⟨0, _⟩ => show win0_3.index t (0 : Fin 2) * 2048 + 1 * m.val = t.val % 4 * 2048 + m.val; omega
  | ⟨1, _⟩ => show win0_3.index t (1 : Fin 2) * 256 + 1 * k.val = k.val; omega

/-- Where an entry of the block of the codes lies in its array. -/
theorem emb0_4 (t : Fin cfg0.N) (r : Fin 256) : ((cfg0.win 4).blk t).view.emb (ix3 0 0 r) = ix3 (⟨t.val / 4, by have := lt64 t; omega⟩ : Fin 16) (0 : Fin 1) r := by
  obtain ⟨e0, e1, e2⟩ := idx0_4 t
  funext a; refine Fin.ext ?_
  match a with
  | ⟨0, _⟩ => show win0_4.index t (0 : Fin 3) * 1 + 1 * 0 = t.val / 4; omega
  | ⟨1, _⟩ => show win0_4.index t (1 : Fin 3) * 1 + 1 * 0 = 0; omega
  | ⟨2, _⟩ => show win0_4.index t (2 : Fin 3) * 256 + 1 * r.val = r.val; omega

/-- Where an entry of the block of the loss lies in its array. -/
theorem emb0_5 (t : Fin cfg0.N) : ((cfg0.win 5).blk t).view.emb (ix2 0 0) = ix2 (0 : Fin 1) (0 : Fin 1) := by
  obtain ⟨e0, e1⟩ := idx0_5 t
  funext a; refine Fin.ext ?_
  match a with
  | ⟨0, _⟩ => show win0_5.index t (0 : Fin 2) * 1 + 1 * 0 = 0; omega
  | ⟨1, _⟩ => show win0_5.index t (1 : Fin 2) * 1 + 1 * 0 = 0; omega

/-- Where an entry of the block of the codes lies in its array. -/
theorem emb1_0 (t : Fin cfg1.N) (r : Fin 128) : ((cfg1.win 0).blk t).view.emb (ix3 0 0 r) = ix3 (⟨t.val, lt32 t⟩ : Fin 32) (0 : Fin 1) r := by
  obtain ⟨e0, e1, e2⟩ := idx1_0 t
  funext a; refine Fin.ext ?_
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 128 + 1 * r.val = r.val; omega

/-- Where an entry of the block of the codewords lies in its array. -/
theorem emb1_1 (t : Fin cfg1.N) (m : Fin 8192) (k : Fin 256) : ((cfg1.win 1).blk t).view.emb (ix2 m k) = ix2 m k := by
  obtain ⟨e0, e1⟩ := idx1_1 t
  funext a; refine Fin.ext ?_
  match a with
  | ⟨0, _⟩ => show win1_1.index t (0 : Fin 2) * 8192 + 1 * m.val = m.val; omega
  | ⟨1, _⟩ => show win1_1.index t (1 : Fin 2) * 256 + 1 * k.val = k.val; omega

/-- Where an entry of the block of the one-hot rows lies in its array. -/
theorem emb1_2 (t : Fin cfg1.N) (r : Fin 128) (m : Fin 8192) : ((cfg1.win 2).blk t).view.emb (ix2 r m) = ix2 (⟨t.val * 128 + r.val, by have := lt32 t; omega⟩ : Fin 4096) m := by
  obtain ⟨e0, e1⟩ := idx1_2 t
  funext a; refine Fin.ext ?_
  match a with
  | ⟨0, _⟩ => show win1_2.index t (0 : Fin 2) * 128 + 1 * r.val = t.val * 128 + r.val; omega
  | ⟨1, _⟩ => show win1_2.index t (1 : Fin 2) * 8192 + 1 * m.val = m.val; omega

/-- Where an entry of the block of the quantised rows lies in its array. -/
theorem emb1_3 (t : Fin cfg1.N) (r : Fin 128) (k : Fin 256) : ((cfg1.win 3).blk t).view.emb (ix2 r k) = ix2 (⟨t.val * 128 + r.val, by have := lt32 t; omega⟩ : Fin 4096) k := by
  obtain ⟨e0, e1⟩ := idx1_3 t
  funext a; refine Fin.ext ?_
  match a with
  | ⟨0, _⟩ => show win1_3.index t (0 : Fin 2) * 128 + 1 * r.val = t.val * 128 + r.val; omega
  | ⟨1, _⟩ => show win1_3.index t (1 : Fin 2) * 256 + 1 * k.val = k.val; omega

/-- Where an entry of the block of the perplexity lies in its array. -/
theorem emb1_4 (t : Fin cfg1.N) : ((cfg1.win 4).blk t).view.emb (ix2 0 0) = ix2 (0 : Fin 1) (0 : Fin 1) := by
  obtain ⟨e0, e1⟩ := idx1_4 t
  funext a; refine Fin.ext ?_
  match a with
  | ⟨0, _⟩ => show win1_4.index t (0 : Fin 2) * 1 + 1 * 0 = 0; omega
  | ⟨1, _⟩ => show win1_4.index t (1 : Fin 2) * 1 + 1 * 0 = 0; omega

/-! ## The blocks read at an index -/

variable {F : FTy → Type} [FloatOps F] (V : Dev nD → Valuation τ sig (Elt F)) (c : Dev nD)

/-- An entry of the block of the squared lengths of the points, read from its array. -/
theorem blk0_0 (t : Fin cfg0.N) (r : Fin 256) : iblk0 V c 0 t (ix2 r 0) = V c main_v5 (ix2 (⟨t.val / 4 * 256 + r.val, by have := lt64 t; omega⟩ : Fin 4096) (0 : Fin 1)) := by
  show V c main_v5 (((cfg0.win 0).blk t).view.emb (ix2 r 0)) = _; rw [emb0_0]
/-- An entry of the block of the squared lengths of the codewords, read from its array. -/
theorem blk0_1 (t : Fin cfg0.N) (m : Fin 2048) : iblk0 V c 1 t (ix2 0 m) = V c main_v6 (ix2 (0 : Fin 1) (⟨t.val % 4 * 2048 + m.val, by omega⟩ : Fin 8192)) := by
  show V c main_v6 (((cfg0.win 1).blk t).view.emb (ix2 0 m)) = _; rw [emb0_1]
/-- An entry of the block of the points, read from its array. -/
theorem blk0_2 (t : Fin cfg0.N) (r k : Fin 256) : iblk0 V c 2 t (ix2 r k) = V c main_v0 (ix2 (⟨t.val / 4 * 256 + r.val, by have := lt64 t; omega⟩ : Fin 4096) k) := by
  show V c main_v0 (((cfg0.win 2).blk t).view.emb (ix2 r k)) = _; rw [emb0_2]
/-- An entry of the block of the codewords, read from its array. -/
theorem blk0_3 (t : Fin cfg0.N) (m : Fin 2048) (k : Fin 256) : iblk0 V c 3 t (ix2 m k) = V c main_arg1 (ix2 (⟨t.val % 4 * 2048 + m.val, by omega⟩ : Fin 8192) k) := by
  show V c main_arg1 (((cfg0.win 3).blk t).view.emb (ix2 m k)) = _; rw [emb0_3]
/-- An entry of the block of the codes, read from its array. -/
theorem blk1_0 (t : Fin cfg1.N) (r : Fin 128) : iblk1 V c 0 t (ix3 0 0 r) = V c main_v8 (ix3 (⟨t.val, lt32 t⟩ : Fin 32) (0 : Fin 1) r) := by
  show V c main_v8 (((cfg1.win 0).blk t).view.emb (ix3 0 0 r)) = _; rw [emb1_0]
/-- An entry of the block of the codewords, read from its array. -/
theorem blk1_1 (t : Fin cfg1.N) (m : Fin 8192) (k : Fin 256) : iblk1 V c 1 t (ix2 m k) = V c main_arg1 (ix2 m k) := by
  show V c main_arg1 (((cfg1.win 1).blk t).view.emb (ix2 m k)) = _; rw [emb1_1]

end Cert.KernelIdeal.Hand

end
-- ==== Proof.KerOut0.lean ====
module

public import proofs.«01_k».proof.Proof.KerBlk
public import proofs.«01_k».proof.Proof.ArgMin
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Near (Pts Cws pt row near nearest First hot two)

/-! ## The first region's scratch: the nearest codeword so far -/

section

variable (V : Dev nD → Valuation τ sig (Elt Ideal)) (c : Dev nD) (x : FVec Ideal S4x1024x256 .f32) (e : FVec Ideal S8192x256 .f32)

/-- What the first region reads: the points, the codewords, and their squared lengths. -/
structure Reads0 : Prop where
  pts : V c main_v0 = hPts x
  ptSq : V c main_v5 = hPtSq x
  cwSq : V c main_v6 = hCwSq e
  cws : V c main_arg1 = e

/-- The point of row `r` of point `k`'s block, -/
abbrev rowAt (k : ℕ) (hk : k < 64) (r : Fin 256) : Fin 4096 := ⟨k / 4 * 256 + r.val, by omega⟩
/-- and the codeword of its column `m`. -/
abbrev colAt (k : ℕ) (m : Fin 2048) : Fin 8192 := ⟨k % 4 * 2048 + m.val, by omega⟩

variable {V c x e}

/-- A number below 64 is the number of its step. -/
theorem pt0_of (k : ℕ) (hk : k < 64) : (pt0 k).val = k := Nat.mod_eq_of_lt hk

/-- The tile's distances. -/
theorem dist_blk (h : Reads0 V c x e) (k : ℕ) (hk : k < 64) (r : Fin 256) (m : Fin 2048) :
    k0_pay9 (F := Ideal) (iblk0 V c 2 (pt0 k)) (iblk0 V c 3 (pt0 k)) (iblk0 V c 0 (pt0 k)) (iblk0 V c 1 (pt0 k)) (ix2 r m)
      = row x e (rowAt k hk r) (k % 4 * 2048 + m.val) := by
  have hp := pt0_of k hk
  rw [pay9_apply, blk0_0, blk0_1, h.ptSq, h.cwSq]
  simp only [blk0_2, blk0_3, h.pts, h.cws, hp, hPts_apply, hPtSq_apply, hCwSq_apply]
  refine Eq.trans ?_ (Cert.Near.row_of x e (rowAt k hk r) (colAt k m)).symm
  rfl

/-- One grid point moves the invariant over one more block of codewords. -/
theorem step0_first (h : Reads0 V c x e) (k : ℕ) (hk : k < 64) (r : Fin 256) (s : Vec Ideal S256x1 .f32 × Vec Ideal S256x1 .i32) (i : ℕ)
    (hs : First (row x e (rowAt k hk r)) (k % 4 * 2048) (s.1 (ix2 r 0)) i) (hi : s.2 (ix2 r 0) = BitVec.ofNat 32 i) :
    ∃ i', First (row x e (rowAt k hk r)) (k % 4 * 2048 + 2048) ((step0 V c k s).1 (ix2 r 0)) i' ∧ (step0 V c k s).2 (ix2 r 0) = BitVec.ofNat 32 i' := by
  obtain ⟨j, h1, h2, h3⟩ := Cert.Near.fold_min_first (by norm_num : 0 < 2048) (fun m : Fin 2048 => row x e (rowAt k hk r) (k % 4 * 2048 + m.val))
  have hmin : k0_pay10 (F := Ideal) (iblk0 V c 2 (pt0 k)) (iblk0 V c 3 (pt0 k)) (iblk0 V c 0 (pt0 k)) (iblk0 V c 1 (pt0 k)) (ix2 r 0)
      = Finset.univ.fold min ⊤ (fun m : Fin 2048 => row x e (rowAt k hk r) (k % 4 * 2048 + m.val)) := by
    rw [pay10_apply, Cert.Near.inf_eq]
    simp only [dist_blk h k hk r]
  have hb := hs.block (B := 2048) (b := Finset.univ.fold min ⊤ (fun m : Fin 2048 => row x e (rowAt k hk r) (k % 4 * 2048 + m.val)))
    j.isLt h1 (fun m hm => h2 ⟨m, hm⟩) (fun m hm => h3 ⟨m, hm.trans j.isLt⟩ hm)
  have e1 : (step0 V c k s).1 (ix2 r 0) = if Finset.univ.fold min ⊤ (fun m : Fin 2048 => row x e (rowAt k hk r) (k % 4 * 2048 + m.val)) < s.1 (ix2 r 0) then Finset.univ.fold min ⊤ (fun m : Fin 2048 => row x e (rowAt k hk r) (k % 4 * 2048 + m.val)) else s.1 (ix2 r 0) := by
    unfold step0
    dsimp only
    rw [pay2_apply, pay11_apply, hmin]
    unfold Scalar.select
    by_cases hlt : Finset.univ.fold min ⊤ (fun m : Fin 2048 => row x e (rowAt k hk r) (k % 4 * 2048 + m.val)) < s.1 (ix2 r 0)
    · rw [if_pos hlt, decide_eq_true hlt]; rfl
    · rw [if_neg hlt, decide_eq_false hlt]; rfl
  rw [← e1] at hb
  refine ⟨_, hb, ?_⟩
  unfold step0
  dsimp only
  rw [pay1_apply, pay12_apply, pay11_apply, hmin]
  simp only [dist_blk h k hk r]
  rw [Cert.Near.fold_minsi_first (by norm_num) (fun m : Fin 2048 => row x e (rowAt k hk r) (k % 4 * 2048 + m.val) = Finset.univ.fold min ⊤ (fun m : Fin 2048 => row x e (rowAt k hk r) (k % 4 * 2048 + m.val))) j h1 (fun m hm => h3 m hm) _ _ (by decide) rfl]
  rw [coords0_1, pt0_of k hk, hi]
  unfold Scalar.select
  by_cases hlt : Finset.univ.fold min ⊤ (fun m : Fin 2048 => row x e (rowAt k hk r) (k % 4 * 2048 + m.val)) < s.1 (ix2 r 0)
  · rw [if_pos hlt, decide_eq_true hlt]
    show BitVec.ofNat 32 j.val + BitVec.ofNat 32 (k % 4) * BitVec.ofNat 32 2048 = _
    rw [← BitVec.ofNat_mul, ← BitVec.ofNat_add, Nat.add_comm]
  · rw [if_neg hlt, decide_eq_false hlt]; rfl

/-- After point `k` the scratch holds the first nearest codeword among the blocks seen. -/
theorem scr_inv (h : Reads0 V c x e) (k : ℕ) (hk : k < 64) (r : Fin 256) :
    ∃ i, First (row x e (rowAt k hk r)) (k % 4 * 2048 + 2048) ((scr V c k).1 (ix2 r 0)) i ∧ (scr V c k).2 (ix2 r 0) = BitVec.ofNat 32 i := by
  induction k with
  | zero =>
    rw [scr_first V c 0 rfl]
    refine step0_first h 0 hk r _ 0 ?_ (pay8_apply r)
    show First _ 0 _ 0
    rw [show (k0_pay7 (F := Ideal), k0_pay8).1 (ix2 r 0) = (⊤ : EReal) from (pay7_apply r).trans Cert.Near.inf_eq]
    exact First.start _
  | succ k ih =>
    by_cases h0 : (k + 1) % 4 = 0
    · rw [scr_first V c (k + 1) h0]
      refine step0_first h (k + 1) hk r _ 0 ?_ (pay8_apply r)
      rw [h0, show (k0_pay7 (F := Ideal), k0_pay8).1 (ix2 r 0) = (⊤ : EReal) from (pay7_apply r).trans Cert.Near.inf_eq]
      exact First.start _
    · rw [scr_next V c (k + 1) h0]
      obtain ⟨i, hi, hi'⟩ := ih (by omega)
      refine step0_first h (k + 1) hk r _ i ?_ hi'
      have e1 : rowAt k (by omega) r = rowAt (k + 1) hk r := Fin.ext (by show k / 4 * 256 + r.val = (k + 1) / 4 * 256 + r.val; omega)
      rw [e1, show k % 4 * 2048 + 2048 = (k + 1) % 4 * 2048 by omega] at hi
      exact hi

/-- At a row block's last point the scratch holds each point's nearest codeword -/
theorem scr_idx (h : Reads0 V c x e) (k : ℕ) (hk : k < 64) (h3 : k % 4 = 3) (r : Fin 256) :
    (scr V c k).2 (ix2 r 0) = BitVec.ofNat 32 (near x e (rowAt k hk r)) := by
  obtain ⟨i, hi, hi'⟩ := scr_inv h k hk r
  rw [show k % 4 * 2048 + 2048 = 8192 by omega] at hi
  rw [hi', Cert.Near.near_eq hi]
/-- and its distance. -/
theorem scr_min (h : Reads0 V c x e) (k : ℕ) (hk : k < 64) (h3 : k % 4 = 3) (r : Fin 256) :
    (scr V c k).1 (ix2 r 0) = Cert.Near.dist x e (rowAt k hk r) (nearest x e (rowAt k hk r)) := by
  obtain ⟨i, hi, hi'⟩ := scr_inv h k hk r
  rw [show k % 4 * 2048 + 2048 = 8192 by omega] at hi
  exact Cert.Near.near_val hi

/-! ## The sum of the distances -/

variable (x e)
/-- Point `n`'s distance from its nearest codeword. -/
def least (n : ℕ) : EReal := if h : n < 4096 then Cert.Near.dist x e ⟨n, h⟩ (nearest x e ⟨n, h⟩) else 0
/-- The least distance of a point is that to its nearest codeword. -/
theorem least_of (n : ℕ) (h : n < 4096) : least x e n = Cert.Near.dist x e ⟨n, h⟩ (nearest x e ⟨n, h⟩) := dif_pos h
variable {x e}

/-- A positive number below 64 is not the zero word. -/
theorem ofNat_ne_zero (n : ℕ) (h : n ≠ 0) (hn : n < 64) : Scalar.cmpi CmpIPredicate.eq (BitVec.ofNat 32 n) 0#32 = 0#1 := by
  have : BitVec.ofNat 32 n ≠ 0#32 := fun h' => h (by
    have := congrArg BitVec.toNat h'
    rw [BitVec.toNat_ofNat, BitVec.toNat_ofNat] at this
    omega)
  show IntOp.cmpi CmpIPredicate.eq (BitVec.ofNat 32 n) 0#32 = 0#1
  show BitVec.ofBool (BitVec.ofNat 32 n == 0#32) = 0#1
  rw [beq_eq_false_iff_ne.mpr this]; rfl

/-- A running sum that restarts at zero does not see what it held. -/
theorem select_run (n : ℕ) (hn : n < 64) (a : EReal) (h0 : n = 0 → a = 0) :
    Scalar.select (Scalar.cmpi CmpIPredicate.eq (BitVec.ofNat 32 n) 0#32) 0 a = a := by
  by_cases h : n = 0
  · rw [h0 h]; unfold Scalar.select; split <;> rfl
  · rw [ofNat_ne_zero n h hn]; rfl

/-- Sums over blocks are sums over the whole. -/
theorem sum_blocks (B : ℕ) (f : ℕ → EReal) (N : ℕ) : ∑ i ∈ Finset.range N, ∑ r : Fin B, f (i * B + r.val) = ∑ n ∈ Finset.range (N * B), f n := by
  induction N with
  | zero => simp
  | succ N ih => rw [Finset.sum_range_succ, ih, Nat.succ_mul, Finset.sum_range_add, Finset.sum_range (fun r => f (N * B + r))]

/-- The minima of a block of points add up to its least distances. -/
theorem sum_scr (h : Reads0 V c x e) (n : ℕ) (hn : n < 16) : ∑ r : Fin 256, (scr V c (4 * n + 3)).1 (ix2 r 0) = ∑ r : Fin 256, least x e (n * 256 + r.val) := by
  refine Finset.sum_congr rfl fun r _ => ?_
  rw [scr_min h (4 * n + 3) (by omega) (by omega) r, least_of x e _ (by omega)]
  have e1 : rowAt (4 * n + 3) (by omega) r = ⟨n * 256 + r.val, by omega⟩ := Fin.ext (by show (4 * n + 3) / 4 * 256 + r.val = n * 256 + r.val; omega)
  rw [e1]

/-- The stored sum is that of the least distances of the blocks before. -/
theorem accP_sum (h : Reads0 V c x e) (n : ℕ) (hn : n ≤ 16) : accP V c n (ix2 0 0) = ∑ i ∈ Finset.range n, ∑ r : Fin 256, least x e (i * 256 + r.val) := by
  induction n with
  | zero =>
    rw [Finset.range_zero, Finset.sum_empty]
    show Ideal.ofBits .f32 0x00000000#32 = 0
    simp [Ideal.ofBits, Ideal.ieee]
  | succ n ih =>
    rw [accP, pay5_apply, pay4_apply, ih (by omega), select_run n (by omega) _ (fun h => by subst h; simp), sum_scr h n (by omega), Finset.sum_range_succ]

/-- The loss, as the kernel scales it. -/
theorem loss_point (h : Reads0 V c x e) (t : Fin cfg0.N) (ht : t.val = 63) :
    k0_pay6 (F := Ideal) (BitVec.ofNat 32 (grid0.coords t 0).val) (scr V c t.val).1 (accP V c (t.val / 4)) (ix2 0 0)
      = (∑ n ∈ Finset.range 4096, least x e n) * Ideal.ofBits .f32 0x34800000#32 := by
  rw [pay6_apply, pay4_apply, coords0_0, ht, accP_sum h (63 / 4) (by norm_num), select_run (63 / 4) (by norm_num) _ (fun h => absurd h (by norm_num)),
    show (63 : ℕ) = 4 * 15 + 3 from rfl, sum_scr h 15 (by norm_num), show (4 * 15 + 3) / 4 = 15 from rfl, ← Finset.sum_range_succ (fun i => ∑ r : Fin 256, least x e (i * 256 + r.val)), sum_blocks]

/-! ## What the first region leaves -/

/-- The indices, in the layout the first region writes. -/
def codes (x : Pts) (e : Cws) : IVec S16x1x256 32 := fun j => BitVec.ofNat 32 (near x e ⟨(j 0).val * 256 + (j 2).val, by have h0 : (j 0).val < 16 := (j 0).isLt; have h2 : (j 2).val < 256 := (j 2).isLt; omega⟩)

/-- The first launch leaves the codes. -/
theorem final0_4 (h : Reads0 V c x e) : (dat0 V c).arrAt 4 cfg0.N = codes x e := by
  refine (dat0 V c).arrAt_eq_of_covers 4 _ (by decide +kernel) fun t hf y => ?_
  have h3 := (flush0_4 t).mp hf
  obtain ⟨r, rfl⟩ : ∃ r : Fin 256, y = ix3 (0 : Fin 1) (0 : Fin 1) r := ⟨y 2, by
    funext a; refine Fin.ext ?_
    match a with
    | ⟨0, _⟩ => have : (y 0).val < 1 := (y 0).isLt; show (y 0).val = 0; omega
    | ⟨1, _⟩ => have : (y 1).val < 1 := (y 1).isLt; show (y 1).val = 0; omega
    | ⟨2, _⟩ => rfl⟩
  rw [emb0_4, after0_4]
  show k0_pay3 (F := Ideal) (scr V c t.val).2 (ix3 0 0 r) = _
  rw [pay3_apply, scr_idx h t.val (lt64 t) h3 r]
  rfl

/-- The first launch leaves the scaled sum of the least distances. -/
theorem final0_5 (h : Reads0 V c x e) : (dat0 V c).arrAt 5 cfg0.N = fun _ => (∑ n ∈ Finset.range 4096, least x e n) * Ideal.ofBits .f32 0x34800000#32 := by
  refine (dat0 V c).arrAt_eq_of_covers 5 _ (by decide +kernel) fun t hf y => ?_
  have h3 : t.val = 63 := by have := (flush0_5 t).mp hf; have := lt64 t; omega
  obtain rfl : y = ix2 (0 : Fin 1) (0 : Fin 1) := by
    funext a; refine Fin.ext ?_
    match a with
    | ⟨0, _⟩ => have : (y 0).val < 1 := (y 0).isLt; show (y 0).val = 0; omega
    | ⟨1, _⟩ => have : (y 1).val < 1 := (y 1).isLt; show (y 1).val = 0; omega
  rw [after0_5]
  exact loss_point h t h3

end

end Cert.KernelIdeal.Hand

end
-- ==== Proof.KerOut1.lean ====
module

public import proofs.«01_k».proof.Proof.KerOut0

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Cert.Near (Pts Cws pt row near nearest First hot two)

/-! ## The second region: the one-hot rows, the codewords taken, the counts -/

section

variable (V : Dev nD → Valuation τ sig (Elt Ideal)) (c : Dev nD) (x : FVec Ideal S4x1024x256 .f32) (e : FVec Ideal S8192x256 .f32)

/-- What the second region reads: the indices, in rows of 128, and the codewords. -/
structure Reads1 : Prop where
  idx : ∀ (i : Fin 32) (r : Fin 128), V c main_v8 (ix3 i 0 r) = BitVec.ofNat 32 (near x e ⟨i.val * 128 + r.val, by omega⟩)
  cws : V c main_arg1 = e

/-- The point of row `r` of point `t`'s block. -/
abbrev rowAt1 (t : Fin cfg1.N) (r : Fin 128) : Fin 4096 := ⟨t.val * 128 + r.val, by have := lt32 t; omega⟩

variable {V c x e}

/-- A block of the one-hot rows, at an index. -/
theorem pay1_hot (h : Reads1 V c x e) (t : Fin cfg1.N) (r : Fin 128) (m : Fin 8192) :
    k1_pay1 (F := Ideal) (iblk1 V c 0 t) (ix2 r m) = hot (near x e (rowAt1 t r)) m.val := by
  rw [qpay1_apply, blk1_0, h.idx]
  exact Cert.Near.hot_kernel (Cert.Near.near_lt x e _) m.isLt

/-- A block of the quantised rows, at an index. -/
theorem pay2_take (h : Reads1 V c x e) (t : Fin cfg1.N) (r : Fin 128) (k : Fin 256) :
    k1_pay2 (F := Ideal) (iblk1 V c 0 t) (iblk1 V c 1 t) (ix2 r k) = e (ix2 (nearest x e (rowAt1 t r)) k) := by
  rw [qpay2_apply]
  simp only [pay1_hot h, blk1_1, h.cws]
  exact Cert.Near.sum_hot (nearest x e (rowAt1 t r)) (fun m => e (ix2 m k))

variable (x e)
/-- Whether codeword `m` is point `n`'s. -/
def mark (m : Fin 8192) (n : ℕ) : EReal := if h : n < 4096 then hot (near x e ⟨n, h⟩) m.val else 0
/-- The mark of a point in a column is its one-hot entry. -/
theorem mark_of (m : Fin 8192) (n : ℕ) (h : n < 4096) : mark x e m n = hot (near x e ⟨n, h⟩) m.val := dif_pos h
variable {x e}

/-- The marks of a block of rows in a column. -/
theorem sum_hot_blk (h : Reads1 V c x e) (t : Fin cfg1.N) (m : Fin 8192) :
    ∑ r : Fin 128, k1_pay1 (F := Ideal) (iblk1 V c 0 t) (ix2 r m) = ∑ r : Fin 128, mark x e m (t.val * 128 + r.val) :=
  Finset.sum_congr rfl fun r _ => by rw [pay1_hot h, mark_of x e m _ (rowAt1 t r).isLt]

/-- A number below 32 is the number of its step. -/
theorem pt1_of (k : ℕ) (hk : k < 32) : (pt1 k).val = k := Nat.mod_eq_of_lt hk

/-- The stored counts are those of the blocks before. -/
theorem cntP_sum (h : Reads1 V c x e) (k : ℕ) (hk : k ≤ 32) (m : Fin 8192) :
    cntP V c k (ix2 0 m) = ∑ i ∈ Finset.range k, ∑ r : Fin 128, mark x e m (i * 128 + r.val) := by
  induction k with
  | zero =>
    rw [Finset.range_zero, Finset.sum_empty]
    show Ideal.ofBits .f32 0x00000000#32 = 0
    simp [Ideal.ofBits, Ideal.ieee]
  | succ k ih =>
    rw [cntP, qpay4_apply, qpay3_apply, ih (by omega), coords1_0, pt1_of k (by omega), select_run k (by omega) _ (fun h => by subst h; simp),
      sum_hot_blk h, pt1_of k (by omega), Finset.sum_range_succ]

/-- The counts at the last point. -/
theorem cnt_last (h : Reads1 V c x e) (t : Fin cfg1.N) (ht : t.val = 31) (m : Fin 8192) :
    k1_pay3 (F := Ideal) (grid1.coords t) (iblk1 V c 0 t) (cntP V c t.val) (ix2 0 m) = ∑ n ∈ Finset.range 4096, mark x e m n := by
  rw [qpay3_apply, sum_hot_blk h, coords1_0, ht, cntP_sum h 31 (by norm_num), select_run 31 (by norm_num) _ (fun h => absurd h (by norm_num)),
    ← Finset.sum_range_succ (fun i => ∑ r : Fin 128, mark x e m (i * 128 + r.val)), sum_blocks]

variable (x e)
/-- A codeword's share of the points, as the kernel scales it. -/
def share (m : Fin 8192) : EReal := (∑ n ∈ Finset.range 4096, mark x e m n) * Ideal.ofBits .f32 0x39800000#32
/-- The perplexity, as the kernel writes it. -/
def perp : EReal := Ideal.exp (0 - ∑ m, share x e m * Ideal.log (share x e m + Ideal.ofBits .f32 0x2EDBE6FF#32))
variable {x e}

/-- The last step stores the perplexity. -/
theorem perp_point (h : Reads1 V c x e) (t : Fin cfg1.N) (ht : t.val = 31) :
    k1_pay5 (F := Ideal) (grid1.coords t) (iblk1 V c 0 t) (cntP V c t.val) (ix2 0 0) = perp x e := by
  rw [qpay5_apply]
  simp only [cnt_last h t ht]
  rfl

/-! ## What the second region leaves -/

/-- The one-hot rows, -/
def hots (x : Pts) (e : Cws) : FVec Ideal S4096x8192 .f32 := fun j => hot (near x e (j 0)) (j 1).val
/-- and the codewords taken. -/
def takes (x : Pts) (e : Cws) : FVec Ideal S4096x256 .f32 := fun j => e (ix2 (nearest x e (j 0)) (j 1))

/-- The second launch leaves the one-hot rows. -/
theorem final1_2 (h : Reads1 V c x e) : (dat1 V c).arrAt 2 cfg1.N = hots x e := by
  refine (dat1 V c).arrAt_eq_of_covers 2 _ (by decide +kernel) fun t hf y => ?_
  obtain ⟨r, m, rfl⟩ : ∃ (r : Fin 128) (m : Fin 8192), y = ix2 r m := ⟨y 0, y 1, by
    funext a; match a with | ⟨0, _⟩ => rfl | ⟨1, _⟩ => rfl⟩
  rw [emb1_2, after1_2]
  exact pay1_hot h t r m

/-- The second launch leaves the nearest codewords. -/
theorem final1_3 (h : Reads1 V c x e) : (dat1 V c).arrAt 3 cfg1.N = takes x e := by
  refine (dat1 V c).arrAt_eq_of_covers 3 _ (by decide +kernel) fun t hf y => ?_
  obtain ⟨r, k, rfl⟩ : ∃ (r : Fin 128) (k : Fin 256), y = ix2 r k := ⟨y 0, y 1, by
    funext a; match a with | ⟨0, _⟩ => rfl | ⟨1, _⟩ => rfl⟩
  rw [emb1_3, after1_3]
  exact pay2_take h t r k

/-- The second launch leaves the perplexity. -/
theorem final1_4 (h : Reads1 V c x e) : (dat1 V c).arrAt 4 cfg1.N = fun _ => perp x e := by
  refine (dat1 V c).arrAt_eq_of_covers 4 _ (by decide +kernel) fun t hf y => ?_
  have h3 : t.val = 31 := by have := (flush1_4 t).mp hf; have := lt32 t; omega
  obtain rfl : y = ix2 (0 : Fin 1) (0 : Fin 1) := by
    funext a; refine Fin.ext ?_
    match a with
    | ⟨0, _⟩ => have : (y 0).val < 1 := (y 0).isLt; show (y 0).val = 0; omega
    | ⟨1, _⟩ => have : (y 1).val < 1 := (y 1).isLt; show (y 1).val = 0; omega
  rw [after1_4]
  exact perp_point h t h3

end

/-! ## The five results -/

section

variable (m : (ℓ : Loc nD τ sig) → Buf (Elt Ideal) ℓ) (c : Dev nD)

/-- The points launched, -/
abbrev argX : FVec Ideal S4x1024x256 .f32 := m ((c.tc : Thread nD τ).loc main_arg0)
/-- and the codewords. -/
abbrev argE : FVec Ideal S8192x256 .f32 := m ((c.tc : Thread nD τ).loc main_arg1)

/-- What the first launch reads. -/
theorem reads0 : Reads0 (U1 m) c (argX m c) (argE m c) where
  pts := after0_v0 _
  ptSq := after0_v5 _
  cwSq := after0_v6 _
  cws := U1_of m c main_arg1 (by decide)

/-- The codes after this launch. -/
theorem U2_v7_0 : U2 m c main_v7_0 = codes (argX m c) (argE m c) :=
  (Pipeline.afterRegion_arr (dat0 (U1 m) c) (U1 m c) winFacts0.arr_inj 4).trans (final0_4 (reads0 m c))
/-- The loss after this launch. -/
theorem U2_v7_1 : U2 m c main_v7_1 = fun _ => (∑ n ∈ Finset.range 4096, least (argX m c) (argE m c) n) * Ideal.ofBits .f32 0x34800000#32 :=
  (Pipeline.afterRegion_arr (dat0 (U1 m) c) (U1 m c) winFacts0.arr_inj 5).trans (final0_5 (reads0 m c))

/-- What the second launch reads. -/
theorem reads1 : Reads1 (U3 m) c (argX m c) (argE m c) where
  idx i r := by
    have h : U3 m c main_v8 = shapeCast S32x1x128 (U2 m c main_v7_0) shapeCasts_S16x1x256_S32x1x128 := after1_v8 _
    rw [h, cast_v8, U2_v7_0]
    unfold codes
    congr 2
    refine Fin.ext ?_
    show i.val / 2 * 256 + (i.val % 2 * 128 + r.val) = i.val * 128 + r.val
    omega
  cws := (U3_of m c main_arg1 (by decide)).trans <| (U2_of m c main_arg1 (by decide)).trans (U1_of m c main_arg1 (by decide))

/-- The one-hot rows after this launch. -/
theorem U4_v9_0 : U4 m c main_v9_0 = hots (argX m c) (argE m c) :=
  (Pipeline.afterRegion_arr (dat1 (U3 m) c) (U3 m c) winFacts1.arr_inj 2).trans (final1_2 (reads1 m c))
/-- The quantised rows after this launch. -/
theorem U4_v9_1 : U4 m c main_v9_1 = takes (argX m c) (argE m c) :=
  (Pipeline.afterRegion_arr (dat1 (U3 m) c) (U3 m c) winFacts1.arr_inj 3).trans (final1_3 (reads1 m c))
/-- The perplexity after this launch. -/
theorem U4_v9_2 : U4 m c main_v9_2 = fun _ => perp (argX m c) (argE m c) :=
  (Pipeline.afterRegion_arr (dat1 (U3 m) c) (U3 m c) winFacts1.arr_inj 4).trans (final1_4 (reads1 m c))
/-- The codes after this launch. -/
theorem U4_v7_0 : U4 m c main_v7_0 = codes (argX m c) (argE m c) :=
  (U4_of m c main_v7_0 (by decide)).trans <| (U3_of m c main_v7_0 (by decide)).trans (U2_v7_0 m c)
/-- The loss after this launch. -/
theorem U4_v7_1 : U4 m c main_v7_1 = fun _ => (∑ n ∈ Finset.range 4096, least (argX m c) (argE m c) n) * Ideal.ofBits .f32 0x34800000#32 :=
  (U4_of m c main_v7_1 (by decide)).trans <| (U3_of m c main_v7_1 (by decide)).trans (U2_v7_1 m c)

/-- Row `b` of batch `a` among the points. -/
abbrev flat (a : Fin 4) (b : Fin 1024) : Fin 4096 := ⟨a.val * 1024 + b.val, by omega⟩

/-- The codes at the end. -/
theorem U5_v10 (a : Fin 4) (b : Fin 1024) : U5 m c main_v10 (ix2 a b) = BitVec.ofNat 32 (near (argX m c) (argE m c) (flat a b)) := by
  have h : U5 m c main_v10 = shapeCast S4x1024 (U4 m c main_v7_0) shapeCasts_S16x1x256_S4x1024 := after2_v10 _
  rw [h, cast_v10, U4_v7_0]
  unfold codes
  congr 2
  refine Fin.ext ?_
  show (a.val * 4 + b.val / 256) * 256 + b.val % 256 = a.val * 1024 + b.val
  omega
/-- The quantised rows at the end. -/
theorem U5_v11 (a : Fin 4) (b : Fin 1024) (k : Fin 256) : U5 m c main_v11 (ix3 a b k) = argE m c (ix2 (nearest (argX m c) (argE m c) (flat a b)) k) := by
  have h : U5 m c main_v11 = shapeCast S4x1024x256 (U4 m c main_v9_1) shapeCasts_S4096x256_S4x1024x256 := after2_v11 _
  rw [h, cast_v11, U4_v9_1]
  rfl
/-- The one-hot rows at the end. -/
theorem U5_v12 (a : Fin 4) (b : Fin 1024) (k : Fin 8192) : U5 m c main_v12 (ix3 a b k) = hot (near (argX m c) (argE m c) (flat a b)) k.val := by
  have h : U5 m c main_v12 = shapeCast S4x1024x8192 (U4 m c main_v9_0) shapeCasts_S4096x8192_S4x1024x8192 := after2_v12 _
  rw [h, cast_v12, U4_v9_0]
  rfl
/-- The loss at the end. -/
theorem U5_v13 : U5 m c main_v13 ix0 = (∑ n ∈ Finset.range 4096, least (argX m c) (argE m c) n) * Ideal.ofBits .f32 0x34800000#32 := by
  have h : U5 m c main_v13 = shapeCast S_ (U4 m c main_v7_1) shapeCasts_S1x1_S_ := after2_v13 _
  rw [h, cast_scalar, U4_v7_1]
/-- The perplexity at the end. -/
theorem U5_v14 : U5 m c main_v14 ix0 = perp (argX m c) (argE m c) := by
  have h : U5 m c main_v14 = shapeCast S_ (U4 m c main_v9_2) shapeCasts_S1x1_S_ := after2_v14 _
  rw [h, cast_scalar, U4_v9_2]

end

end Cert.KernelIdeal.Hand

end
-- ==== Proof.RefVal.lean ====
module

public import proofs.«01_k».proof.Proof.RefRun

@[expose] public section

set_option maxRecDepth 16384

noncomputable section

namespace Cert.ReferenceIdeal.Hand

open Cert.ReferenceIdeal
open Idealize.ShloMosaic Idealize.ShloMosaic.TcCoe Idealize.ShloMosaic.StableHlo
open Idealize.SL.Sem
open Facts₀ Facts

variable {F : FTy → Type} [FloatOps F]

/-- The distances of the points `x` from the codewords `e`. -/
def refDist (x : FVec F S4x1024x256 .f32) (e : FVec F S8192x256 .f32) : FVec F S4096x8192 .f32 :=
  subf
    (addf
      (broadcastInDim S4096x8192 ![0, 1] bcast_S4096x1_S4096x8192_0_1 (broadcastInDim S4096x1 ![0] bcast_S4096_S4096x1_0
        (Host.reduceAdd (mulf (shapeCast S4096x256 x shapeCasts_S4x1024x256_S4096x256) (shapeCast S4096x256 x shapeCasts_S4x1024x256_S4096x256))
          (constant S_ .f32 0x00000000#32) reducesTo_S4096x256_S4096_d1 h_S_)))
      (broadcastInDim S4096x8192 ![0, 1] bcast_S1x8192_S4096x8192_0_1 (broadcastInDim S1x8192 ![1] bcast_S8192_S1x8192_1
        (Host.reduceAdd (mulf e e) (constant S_ .f32 0x00000000#32) reducesTo_S8192x256_S8192_d1 h_S_))))
    (mulf (broadcastInDim S4096x8192 ![] bcast_S_S4096x8192 (constant S_ .f32 0x40000000#32))
      (Host.dotGeneral dot_S4096x256_S256x8192_S4096x8192_1_0_0_1_n_n none (shapeCast S4096x256 x shapeCasts_S4x1024x256_S4096x256)
        (transpose S256x8192 [1, 0] e transposes_S8192x256_S256x8192_1_0)))

/-- Each point's nearest codeword. -/
def refIdx (d : FVec F S4096x8192 .f32) : IVec S4096 32 := fun j =>
  (Host.argReduce reducer_argmin_f32_i32 d (iotaInDim S4096x8192 32 1) (constant (F := F) S_ .f32 0x7F800000#32) (constantI S_ 32 0#32)
    reducesTo_S4096x8192_S4096_d1 h_S_ j).2

/-- Its one-hot row. -/
def refOne (i : IVec S4096 32) : FVec F S4096x8192 .f32 :=
  uitofp .f32 (cmpi .eq
    (broadcastInDim S4096x8192 ![0, 1] bcast_S4096x1_S4096x8192_0_1 (broadcastInDim S4096x1 ![0] bcast_S4096_S4096x1_0 i))
    (broadcastInDim S4096x8192 ![0, 1] bcast_S1x8192_S4096x8192_0_1 (iotaInDim S1x8192 32 1)))

/-- The index as the gather takes it: a negative one counted from the end, as a column. -/
def refCol (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 8192#32))) i)

/-- Whether that index names a codeword. -/
def refOk (q : IVec S4096x1 32) : IVec S4096 1 :=
  Host.reduce IntOp.andi
    (andi (cmpi .sge q (broadcastInDim S4096x1 ![] bcast_S_S4096x1 (constantI S_ 32 0#32)))
      (cmpi .sle q (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_

/-- The codebook rows at the indices. -/
def refTake (e : FVec F S8192x256 .f32) (i : IVec S4096 32) : FVec F S4096x256 .f32 :=
  select (broadcastInDim S4096x256 ![0] bcast_S4096_S4096x256_0 (refOk (refCol i)))
    (Host.gather gather_S8192x256_S4096x1_S4096x256_1_0_n_n_0_1_1256 e (refCol i))
    (broadcastInDim S4096x256 ![] bcast_S_S4096x256 (constant S_ .f32 0x7FC00000#32))

/-- The quantized result of the rows `t`. -/
def refQuant (x : FVec F S4x1024x256 .f32) (t : FVec F S4096x256 .f32) : FVec F S4x1024x256 .f32 :=
  addf x (subf (shapeCast S4x1024x256 t shapeCasts_S4096x256_S4x1024x256) x)

/-- The loss of the rows `t`. -/
def refLoss (x : FVec F S4x1024x256 .f32) (t : FVec F S4096x256 .f32) : FVec F S_ .f32 :=
  mulf (constant S_ .f32 0x3E800000#32) (Host.divf
    (Host.reduceAdd (mulf (subf x (shapeCast S4x1024x256 t shapeCasts_S4096x256_S4x1024x256)) (subf x (shapeCast S4x1024x256 t shapeCasts_S4096x256_S4x1024x256)))
      (constant S_ .f32 0x00000000#32) reducesTo_S4x1024x256_S_d0_1_2 h_S_)
    (constant S_ .f32 0x49800000#32))

/-- How often each codeword is named. -/
def refProb (o : FVec F S4096x8192 .f32) : FVec F S8192 .f32 :=
  Host.divf (Host.reduceAdd o (constant S_ .f32 0x00000000#32) reducesTo_S4096x8192_S8192_d0 h_S_)
    (broadcastInDim S8192 ![] bcast_S_S8192 (constant S_ .f32 0x45800000#32))

/-- The perplexity of the one-hot rows `o`. -/
def refPerp (o : FVec F S4096x8192 .f32) : FVec F S_ .f32 :=
  Host.exp (Host.negf (Host.reduceAdd (mulf (refProb o) (Host.log (addf (refProb o) (broadcastInDim S8192 ![] bcast_S_S8192 (constant S_ .f32 0x2EDBE6FF#32)))))
    (constant S_ .f32 0x00000000#32) reducesTo_S8192_S_d0 h_S_))

/-! ## What each stretch leaves -/

/-- This stretch leaves the distances. -/
theorem afterA_v14 (V : Valuation τ sig (Elt F)) : after opsA V (Proc.devRef .tc main_v14) = refDist (V (Proc.devRef .tc main_arg0)) (V (Proc.devRef .tc main_arg1)) := by
  after_results_simp
  try rfl

/-- This stretch leaves the indices. -/
theorem afterB_v15 (V : Valuation τ sig (Elt F)) : after opsB V (Proc.devRef .tc main_v15) = refIdx (V (Proc.devRef .tc main_v14)) := by
  after_results_simp
  try rfl

/-- This stretch leaves the one-hot rows. -/
theorem afterC_v16 (V : Valuation τ sig (Elt F)) : after opsC V (Proc.devRef .tc main_v16) = refOne (V (Proc.devRef .tc main_v15)) := by
  after_results_simp
  try rfl

/-- This stretch leaves the looked-up rows. -/
theorem afterD_v17 (V : Valuation τ sig (Elt F)) : after opsD V (Proc.devRef .tc main_v17) = refTake (V (Proc.devRef .tc main_arg1)) (V (Proc.devRef .tc main_v15)) := by
  after_results_simp
  try rfl

/-- This stretch leaves the straight-through rows. -/
theorem afterE_v25 (V : Valuation τ sig (Elt F)) : after opsE V (Proc.devRef .tc main_v25) = refQuant (V (Proc.devRef .tc main_arg0)) (V (Proc.devRef .tc main_v17)) := by
  after_results_simp
  try rfl

/-- This stretch leaves the loss. -/
theorem afterE_v23 (V : Valuation τ sig (Elt F)) : after opsE V (Proc.devRef .tc main_v23) = refLoss (V (Proc.devRef .tc main_arg0)) (V (Proc.devRef .tc main_v17)) := by
  after_results_simp
  try rfl

/-- This stretch leaves the perplexity. -/
theorem afterE_v35 (V : Valuation τ sig (Elt F)) : after opsE V (Proc.devRef .tc main_v35) = refPerp (V (Proc.devRef .tc main_v16)) := by
  after_results_simp
  try rfl

/-- This stretch leaves the codes. -/
theorem afterE_v36 (V : Valuation τ sig (Elt F)) : after opsE V (Proc.devRef .tc main_v36) = shapeCast S4x1024 (V (Proc.devRef .tc main_v15)) shapeCasts_S4096_S4x1024 := by
  after_results_simp
  try rfl

/-- This stretch leaves the one-hot rows. -/
theorem afterE_v37 (V : Valuation τ sig (Elt F)) : after opsE V (Proc.devRef .tc main_v37) = shapeCast S4x1024x8192 (V (Proc.devRef .tc main_v16)) shapeCasts_S4096x8192_S4x1024x8192 := by
  after_results_simp
  try rfl

/-! ## The five results of the whole line -/

variable (V : Valuation τ sig (Elt F))

/-- The indices of the arguments' distances. -/
abbrev idxOf (V : Valuation τ sig (Elt F)) : IVec S4096 32 := refIdx (refDist (V (Proc.devRef .tc main_arg0)) (V (Proc.devRef .tc main_arg1)))

/-- The indices after the stretches so far. -/
theorem W_v15 : after opsB (after opsA V) (Proc.devRef .tc main_v15) = idxOf V := by
  rw [afterB_v15, afterA_v14]
/-- The one-hot rows after the stretches so far. -/
theorem W_v16 : after opsC (after opsB (after opsA V)) (Proc.devRef .tc main_v16) = refOne (idxOf V) := by
  rw [afterC_v16, W_v15]
/-- The looked-up rows after the stretches so far. -/
theorem W_v17 : after opsD (after opsC (after opsB (after opsA V))) (Proc.devRef .tc main_v17)
    = refTake (V (Proc.devRef .tc main_arg1)) (idxOf V) := by
  rw [afterD_v17, keepC _ main_v15 (by decide), W_v15, keepC _ main_arg1 (by decide), keepB _ main_arg1 (by decide), keepA _ main_arg1 (by decide)]
/-- The points after the stretches so far. -/
theorem W_arg0 : after opsD (after opsC (after opsB (after opsA V))) (Proc.devRef .tc main_arg0) = V (Proc.devRef .tc main_arg0) := by
  rw [keepD _ main_arg0 (by decide), keepC _ main_arg0 (by decide), keepB _ main_arg0 (by decide), keepA _ main_arg0 (by decide)]
/-- All operations as five stretches. -/
theorem ops_split : after ops V = after opsE (after opsD (after opsC (after opsB (after opsA V)))) := by
  rw [after_append, after_append, after_append, after_append]

/-- The straight-through rows at the end of the reference. -/
theorem after_v25 : after ops V (Proc.devRef .tc main_v25)
    = refQuant (V (Proc.devRef .tc main_arg0)) (refTake (V (Proc.devRef .tc main_arg1)) (idxOf V)) := by
  rw [ops_split, afterE_v25, W_v17, W_arg0]
/-- The loss at the end of the reference. -/
theorem after_v23 : after ops V (Proc.devRef .tc main_v23)
    = refLoss (V (Proc.devRef .tc main_arg0)) (refTake (V (Proc.devRef .tc main_arg1)) (idxOf V)) := by
  rw [ops_split, afterE_v23, W_v17, W_arg0]
/-- The perplexity at the end of the reference. -/
theorem after_v35 : after ops V (Proc.devRef .tc main_v35) = refPerp (refOne (idxOf V)) := by
  rw [ops_split, afterE_v35, keepD _ main_v16 (by decide), W_v16]
/-- The codes at the end of the reference. -/
theorem after_v36 : after ops V (Proc.devRef .tc main_v36) = shapeCast S4x1024 (idxOf V) shapeCasts_S4096_S4x1024 := by
  rw [ops_split, afterE_v36, keepD _ main_v15 (by decide), keepC _ main_v15 (by decide), W_v15]
/-- The one-hot rows at the end of the reference. -/
theorem after_v37 : after ops V (Proc.devRef .tc main_v37) = shapeCast S4x1024x8192 (refOne (idxOf V)) shapeCasts_S4096x8192_S4x1024x8192 := by
  rw [ops_split, afterE_v37, keepD _ main_v16 (by decide), W_v16]

end Cert.ReferenceIdeal.Hand

end
-- ==== Proof.RefPt0.lean ====
module

public import proofs.«01_k».proof.Proof.RefVal
public import proofs.«01_k».proof.Proof.Near

@[expose] public section

set_option maxRecDepth 16384

noncomputable section

namespace Cert.ReferenceIdeal.Hand

open Cert.ReferenceIdeal
open Idealize.ShloMosaic Idealize.ShloMosaic.TcCoe Idealize.ShloMosaic.StableHlo
open Idealize.SL.Sem
open Facts₀ Facts
open Cert.Near (Pts Cws pt row near nearest First hot two)

/-! ## The reference's stretches at an index, over the ideal values -/

/-- The distances of the reference, at an index. -/
theorem refDist_apply (x : FVec Ideal S4x1024x256 .f32) (e : FVec Ideal S8192x256 .f32) (n : Fin 4096) (m : Fin 8192) :
    refDist x e (ix2 n m) = Cert.Near.dist x e n m := by
  unfold refDist Cert.Near.dist pt two
  pointwise

/-- The one-hot rows of the reference, at an index. -/
theorem refOne_apply (i : IVec S4096 32) (n : Fin 4096) (m : Fin 8192) :
    refOne (F := Ideal) i (ix2 n m) = FloatOps.uitofp FTy.f32 (IntOp.cmpi CmpIPredicate.eq (i (ix1 n)) (BitVec.ofNat 32 m.val)) := by
  unfold refOne
  pointwise

/-- The indices as a column of the reference, at an index. -/
theorem refCol_apply (i : IVec S4096 32) (n : Fin 4096) :
    refCol i (ix2 n 0) = Scalar.select (IntOp.cmpi CmpIPredicate.slt (i (ix1 n)) 0#32) (IntOp.addi (i (ix1 n)) 8192#32) (i (ix1 n)) := by
  unfold refCol
  pointwise

/-- The bounds check of the reference, at an index. -/
theorem refOk_apply (i : IVec S4096x1 32) (n : Fin 4096) :
    refOk i (ix1 n) = Finset.univ.fold IntOp.andi (1#1)
      (fun z : Fin 1 => IntOp.andi (IntOp.cmpi CmpIPredicate.sge (i (ix2 n z)) 0#32) (IntOp.cmpi CmpIPredicate.sle (i (ix2 n z)) 8191#32)) := by
  unfold refOk
  pointwise

/-- The shares of the reference, at an index. -/
theorem refProb_apply (o : FVec Ideal S4096x8192 .f32) (m : Fin 8192) :
    refProb o (ix1 m) = Ideal.div (∑ n, o (ix2 n m)) (Ideal.ofBits FTy.f32 0x45800000#32) := by
  unfold refProb
  pointwise

/-- The perplexity of the reference, at an index. -/
theorem refPerp_apply (o : FVec Ideal S4096x8192 .f32)  :
    refPerp o ix0 = Ideal.exp (-∑ m, refProb o (ix1 m) * Ideal.log (refProb o (ix1 m) + Ideal.ofBits FTy.f32 0x2EDBE6FF#32)) := by
  unfold refPerp
  pointwise

/-- The loss of the reference, at an index. -/
theorem refLoss_apply (x : FVec Ideal S4x1024x256 .f32) (t : FVec Ideal S4096x256 .f32) :
    refLoss x t ix0 = Ideal.ofBits FTy.f32 0x3E800000#32 * Ideal.div
      (∑ a : Fin 4, ∑ b : Fin 1024, ∑ k : Fin 256, (x (ix3 a b k) - t (ix2 ⟨a.val * 1024 + b.val, by omega⟩ k)) * (x (ix3 a b k) - t (ix2 ⟨a.val * 1024 + b.val, by omega⟩ k)))
      (Ideal.ofBits FTy.f32 0x49800000#32) := by
  unfold refLoss
  pointwise

/-- The straight-through rows of the reference, at an index. -/
theorem refQuant_apply (x : FVec Ideal S4x1024x256 .f32) (t : FVec Ideal S4096x256 .f32) (a : Fin 4) (b : Fin 1024) (k : Fin 256) :
    refQuant x t (ix3 a b k) = x (ix3 a b k) + (t (ix2 ⟨a.val * 1024 + b.val, by omega⟩ k) - x (ix3 a b k)) := by
  unfold refQuant
  pointwise

/-- The look-up of the reference, at an index. -/
theorem refTake_apply (e : FVec Ideal S8192x256 .f32) (i : IVec S4096 32) (n : Fin 4096) (k : Fin 256) :
    refTake e i (ix2 n k) = Scalar.select (refOk (refCol i) (ix1 n))
      (Host.gather gather_S8192x256_S4096x1_S4096x256_1_0_n_n_0_1_1256 e (refCol i) (ix2 n k)) (Ideal.ofBits FTy.f32 0x7FC00000#32) := by
  unfold refTake
  pointwise

/-! ## The arg-min -/

/-- The reducer returns the lesser of two pairs. -/
theorem reducer_lex (a b : EReal × BitVec 32) :
    ((reducer_argmin_f32_i32 (F := Ideal) a b = a ∨ reducer_argmin_f32_i32 (F := Ideal) a b = b)
      ∧ Cert.Near.Lex (reducer_argmin_f32_i32 (F := Ideal) a b) a ∧ Cert.Near.Lex (reducer_argmin_f32_i32 (F := Ideal) a b) b) := by
  obtain ⟨a1, a2⟩ := a
  obtain ⟨b1, b2⟩ := b
  have key : reducer_argmin_f32_i32 (F := Ideal) (a1, a2) (b1, b2)
      = (if a1 < b1 then a1 else b1, if a1 < b1 ∨ a1 = b1 ∧ a2.toInt < b2.toInt then a2 else b2) := by
    simp only [reducer_argmin_f32_i32, Ideal.cmpf_def, Ideal.cmp, IntOp.cmpi, IntOp.ori, IntOp.andi, ne_eq, not_true_eq_false, decide_false]
    by_cases h1 : a1 < b1 <;> by_cases h2 : a1 = b1 <;> by_cases h3 : a2.toInt < b2.toInt <;>
      simp [h1, h2, h3, BitVec.slt_iff_toInt_lt, Scalar.select, BitVec.slt]
  rw [key]
  unfold Cert.Near.Lex
  rcases lt_trichotomy a1 b1 with h | h | h
  · simp [h]
  · subst h
    by_cases h3 : a2.toInt < b2.toInt
    · simp [h3, h3.le]
    · simp [h3, not_lt.mp h3]
  · simp [h, not_lt.mpr h.le, h.ne']

/-- The pairs reduced into a row are the row's. -/
theorem mem_argFiber {N M w : ℕ} (h : (⟨2, ![N, M]⟩ : Shape).ReducesTo [1] ⟨1, ![N]⟩) (x : FVec Ideal ⟨2, ![N, M]⟩ .f32) (y : IVec ⟨2, ![N, M]⟩ w)
    (n : Fin N) (p : Ideal .f32 × BitVec w) :
    p ∈ Host.argReduceFiber x y h (ix1 n) ↔ ∃ k, p = (x (ix2 n k), y (ix2 n k)) := by
  unfold Host.argReduceFiber
  rw [List.mem_map]
  constructor
  · rintro ⟨q, hq, rfl⟩
    obtain ⟨k, hk⟩ := (Shape.ReducesTo.fiber_r2_a1 h (ix1 n) _).mp (of_decide_eq_true (List.mem_filter.mp hq).2)
    exact ⟨k, by rw [← hk]; rfl⟩
  · rintro ⟨k, rfl⟩
    refine ⟨(⟨2, ![N, M]⟩ : Shape).rowMajor (ix2 n k), List.mem_filter.mpr ⟨List.mem_finRange _, decide_eq_true ?_⟩, ?_⟩
    · rw [Equiv.symm_apply_apply]
      exact (Shape.ReducesTo.fiber_r2_a1 h (ix1 n) _).mpr ⟨k, rfl⟩
    · rw [Equiv.symm_apply_apply]

/-- The arg-min along the rows of a matrix is the first index of the row's least entry. -/
theorem argReduce_first {N M : ℕ} {u : Shape} (h : (⟨2, ![N, M]⟩ : Shape).ReducesTo [1] ⟨1, ![N]⟩) (hu : 0 < u.numel) (x : FVec Ideal ⟨2, ![N, M]⟩ .f32)
    (y : IVec ⟨2, ![N, M]⟩ 32) (hy : ∀ n k, y (ix2 n k) = BitVec.ofNat 32 k.val) (x0 : FVec Ideal u .f32) (y0 : IVec u 32) (hx0 : ∀ j, x0 j = (⊤ : EReal)) (hy0 : ∀ j, y0 j = 0#32)
    (hM : 0 < M) (hM' : M < 2 ^ 31) (n : Fin N) (d : ℕ → EReal) (hd : ∀ k : Fin M, x (ix2 n k) = d k.val) :
    ∃ v i, First d M v i ∧ (Host.argReduce (reducer_argmin_f32_i32 (F := Ideal)) x y x0 y0 h hu (ix1 n)).2 = BitVec.ofNat 32 i := by
  rw [Ideal.argReduce_eq_reduce2, Host.reduce2_eq_foldl_fiber, hx0, hy0]
  obtain ⟨i, hi, hi'⟩ := Cert.Near.foldl_first (reducer_argmin_f32_i32 (F := Ideal)) reducer_lex d M hM hM'
    (Host.argReduceFiber x y h (ix1 n)) (fun p => by
      rw [mem_argFiber]
      constructor
      · rintro ⟨k, rfl⟩
        exact ⟨k.val, k.isLt, Prod.ext (hd k) (hy n k)⟩
      · rintro ⟨k, hk, rfl⟩
        exact ⟨⟨k, hk⟩, Prod.ext (hd ⟨k, hk⟩).symm (hy n ⟨k, hk⟩).symm⟩)
  exact ⟨_, i, hi, hi'⟩

end Cert.ReferenceIdeal.Hand

end
-- ==== Proof.RefPt.lean ====
module

public import proofs.«01_k».proof.Proof.RefPt0

@[expose] public section

set_option maxRecDepth 16384

noncomputable section

namespace Cert.ReferenceIdeal.Hand

open Cert.ReferenceIdeal
open Idealize.ShloMosaic Idealize.ShloMosaic.TcCoe Idealize.ShloMosaic.StableHlo
open Idealize.SL.Sem
open Facts₀ Facts
open Cert.Near (Pts Cws pt row near nearest First hot two)

/-- The start of the minimum. -/
theorem inf_apply (j : S_.Idx) : constant (F := Ideal) S_ .f32 0x7F800000#32 j = (⊤ : EReal) := Cert.Near.inf_eq
/-- The start of the index. -/
theorem zero_apply (j : S_.Idx) : constantI S_ 32 0#32 j = 0#32 := rfl
/-- The column number, at an index. -/
theorem iota_apply (n : Fin 4096) (k : Fin 8192) : iotaInDim S4096x8192 32 1 (ix2 n k) = BitVec.ofNat 32 k.val := rfl
/-- There is a codeword. -/
theorem lt_a : 0 < 8192 := by norm_num
/-- The codewords are few enough for a signed word. -/
theorem lt_b : 8192 < 2 ^ 31 := by norm_num
/-- The arg-min of the reference, as a function of the point. -/
theorem refIdx_def (d : FVec Ideal S4096x8192 .f32) : refIdx d = fun j => (Host.argReduce (reducer_argmin_f32_i32 (F := Ideal)) d (iotaInDim S4096x8192 32 1)
    (constant (F := Ideal) S_ .f32 0x7F800000#32) (constantI S_ 32 0#32) reducesTo_S4096x8192_S4096_d1 h_S_ j).2 := by
  with_reducible delta refIdx
  with_reducible rfl
/-- A function known by its body takes the body's value. -/
theorem body_eq {α β : Type} {f g : α → β} (h : f = g) (j : α) (b : β) (hb : g j = b) : f j = b := (congrFun h j).trans hb

/-- The arg-min of the reference is a first index of the least distance. -/
theorem refIdx_first (x : FVec Ideal S4x1024x256 .f32) (e : FVec Ideal S8192x256 .f32) (n : Fin 4096) :
    ∃ v i, First (row x e n) 8192 v i ∧ (Host.argReduce (reducer_argmin_f32_i32 (F := Ideal)) (refDist x e) (iotaInDim S4096x8192 32 1) (constant (F := Ideal) S_ .f32 0x7F800000#32) (constantI S_ 32 0#32)
    reducesTo_S4096x8192_S4096_d1 h_S_ (ix1 n)).2 = BitVec.ofNat 32 i :=
  argReduce_first reducesTo_S4096x8192_S4096_d1 h_S_ (refDist x e) (iotaInDim S4096x8192 32 1) iota_apply
    (constant (F := Ideal) S_ .f32 0x7F800000#32) (constantI S_ 32 0#32) inf_apply zero_apply lt_a lt_b n (row x e n)
    (fun k => (refDist_apply x e n k).trans (Cert.Near.row_of x e n k).symm)

/-- The reference's index is the nearest codeword. -/
theorem refIdx_near (x : FVec Ideal S4x1024x256 .f32) (e : FVec Ideal S8192x256 .f32) (n : Fin 4096) :
    refIdx (refDist x e) (ix1 n) = BitVec.ofNat 32 (near x e n) := by
  obtain ⟨v, i, hi, h⟩ := refIdx_first x e n
  exact body_eq (refIdx_def (refDist x e)) (ix1 n) _ (h.trans (congrArg (BitVec.ofNat 32) (Cert.Near.near_eq hi)))

/-- The reference's one-hot rows. -/
theorem refOne_near (x : FVec Ideal S4x1024x256 .f32) (e : FVec Ideal S8192x256 .f32) (n : Fin 4096) (m : Fin 8192) :
    refOne (F := Ideal) (refIdx (refDist x e)) (ix2 n m) = hot (near x e n) m.val := by
  rw [refOne_apply, refIdx_near]
  exact Cert.Near.hot_host (Cert.Near.near_lt x e n) m.isLt

/-! ## The rows taken -/

/-- The column of indices that the look-up uses. -/
theorem refCol_near (x : FVec Ideal S4x1024x256 .f32) (e : FVec Ideal S8192x256 .f32) (n : Fin 4096) (z : Fin 1) :
    refCol (refIdx (refDist x e)) (ix2 n z) = BitVec.ofNat 32 (near x e n) := by
  obtain rfl : z = 0 := Subsingleton.elim _ _
  have hlt := Cert.Near.near_lt x e n
  rw [refCol_apply, refIdx_near]
  have : IntOp.cmpi CmpIPredicate.slt (BitVec.ofNat 32 (near x e n)) 0#32 = 0#1 := by
    simp only [IntOp.cmpi, BitVec.slt, Cert.Near.toInt_ofNat _ (show near x e n < 2 ^ 31 by omega)]
    rw [decide_eq_false (by simp)]; rfl
  rw [this]; rfl

/-- Every index is within bounds. -/
theorem refOk_near (x : FVec Ideal S4x1024x256 .f32) (e : FVec Ideal S8192x256 .f32) (n : Fin 4096) :
    refOk (refCol (refIdx (refDist x e))) (ix1 n) = 1#1 := by
  have hlt := Cert.Near.near_lt x e n
  rw [refOk_apply, show (Finset.univ : Finset (Fin 1)) = {0} from rfl, Finset.fold_singleton, refCol_near]
  have h1 : IntOp.cmpi CmpIPredicate.sge (BitVec.ofNat 32 (near x e n)) 0#32 = 1#1 := by
    simp only [IntOp.cmpi, BitVec.sle, Cert.Near.toInt_ofNat _ (show near x e n < 2 ^ 31 by omega)]
    rw [decide_eq_true (by simp)]; rfl
  have h2 : IntOp.cmpi CmpIPredicate.sle (BitVec.ofNat 32 (near x e n)) 8191#32 = 1#1 := by
    simp only [IntOp.cmpi, BitVec.sle, Cert.Near.toInt_ofNat _ (show near x e n < 2 ^ 31 by omega)]
    rw [decide_eq_true (by rw [show (8191#32 : BitVec 32).toInt = 8191 by decide]; omega)]; rfl
  rw [h1, h2]; rfl

/-- The dimension numbers of a gather of whole rows. -/
def rowDims (N R C : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndexMap := [0]
  startIndicesBatchingDims := []
  indexVectorDim := 1
  sliceSizes := ![1, C]
  wf := wf

/-- A gather of whole rows at `(n, k)`: row `q n`, read signed and clamped. -/
theorem gather_rows_apply {α : Type} {N R C w : ℕ} (hN : 0 < N)
    (wf : GatherDims.WF ⟨2, ![N, C]⟩ ⟨2, ![R, 1]⟩ ⟨2, ![R, C]⟩ [1] [0] [] [0] [] 1 ![1, C])
    (e : (⟨2, ![N, C]⟩ : Shape).Idx → α) (q : IVec ⟨2, ![R, 1]⟩ w) (n : Fin R) (k : Fin C) :
    Host.gather (rowDims N R C wf) e q (ix2 n k) = e (ix2 ⟨min (q (ix2 n 0)).toInt.toNat (N - 1), by omega⟩ k) := by
  unfold Host.gather
  congr 1
  funext a
  refine Fin.ext ?_
  show (rowDims N R C wf).start (ix2 n k) q a + (rowDims N R C wf).batchCoord (ix2 n k) a + (rowDims N R C wf).offCoord (ix2 n k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims N R C wf).startIndexMap from List.mem_singleton.mpr rfl)]
    have hsi : (rowDims N R C wf).siIdx (ix2 n k) ⟨List.idxOf (0 : Fin 2) (rowDims N R C wf).startIndexMap,
        List.idxOf_lt_length_iff.2 (List.mem_singleton.mpr rfl)⟩ = ix2 n 0 := by
      funext b; refine Fin.ext ?_
      match b with
      | ⟨0, _⟩ => rfl
      | ⟨1, _⟩ => rfl
    show min (q ((rowDims N R C wf).siIdx (ix2 n k) ⟨List.idxOf (0 : Fin 2) (rowDims N R C wf).startIndexMap, _⟩)).toInt.toNat _ = _
    rw [hsi]
    rfl
  | ⟨1, h1⟩ =>
    unfold GatherDims.start
    rw [dif_neg (show ¬ (⟨1, h1⟩ : Fin 2) ∈ (rowDims N R C wf).startIndexMap from fun h => absurd (congrArg Fin.val (List.mem_singleton.mp h)) (by simp))]
    simp only [Nat.zero_add, Nat.add_zero]
    rfl

/-- The reference's gather at `(n, k)`. -/
theorem gather_apply (e : FVec Ideal S8192x256 .f32) (q : IVec S4096x1 32) (n : Fin 4096) (k : Fin 256) :
    Host.gather gather_S8192x256_S4096x1_S4096x256_1_0_n_n_0_1_1256 e q (ix2 n k)
      = e (ix2 ⟨min (q (ix2 n 0)).toInt.toNat (8192 - 1), by omega⟩ k) :=
  gather_rows_apply (by norm_num) gather_S8192x256_S4096x1_S4096x256_1_0_n_n_0_1_1256_wf e q n k

/-- The reference's rows are the nearest codewords. -/
theorem refTake_near (x : FVec Ideal S4x1024x256 .f32) (e : FVec Ideal S8192x256 .f32) (n : Fin 4096) (k : Fin 256) :
    refTake e (refIdx (refDist x e)) (ix2 n k) = e (ix2 (nearest x e n) k) := by
  have hlt := Cert.Near.near_lt x e n
  rw [refTake_apply, refOk_near, gather_apply]
  refine Eq.trans (show Scalar.select 1#1 _ _ = _ from rfl) (congrArg (fun z => e (ix2 z k)) (Fin.ext ?_))
  show min (refCol (refIdx (refDist x e)) (ix2 n 0)).toInt.toNat (8192 - 1) = near x e n
  rw [refCol_near, Cert.Near.toInt_ofNat _ (by omega)]
  omega

end Cert.ReferenceIdeal.Hand

end
-- ==== Proof.Meet.lean ====
module

public import proofs.«01_k».proof.Proof.KerOut1
public import proofs.«01_k».proof.Proof.RefPt

@[expose] public section

set_option maxRecDepth 16384

noncomputable section

namespace Cert.Meet

open Idealize.ShloMosaic
open Cert.Near (Pts Cws pt row near nearest First hot two)
open Cert.KernelIdeal.Hand (least mark share perp least_of mark_of sum_blocks flat)

/-! ## The kernel's values against the reference's -/

variable (x : Pts) (e : Cws)

/-- Between real coordinates the expanded distance is the sum of the squared differences. -/
theorem dist_sq (hx : ∀ j, ∃ r : ℝ, x j = (r : EReal)) (he : ∀ j, ∃ r : ℝ, e j = (r : EReal)) (n : Fin 4096) (m : Fin 8192) :
    Cert.Near.dist x e n m = ∑ k, (pt x n k - e (ix2 m k)) * (pt x n k - e (ix2 m k)) := by
  have hp : ∀ k, ∃ r : ℝ, pt x n k = (r : EReal) := fun k => hx _
  choose p hp using hp
  choose q hq using fun k => he (ix2 m k)
  unfold Cert.Near.dist
  simp only [hp, hq, Cert.Near.two_eq]
  simp only [← EReal.coe_mul, ← EReal.coe_sub, ← Cert.Near.coe_sum, ← EReal.coe_add]
  congr 1
  rw [Finset.mul_sum, ← Finset.sum_add_distrib, ← Finset.sum_sub_distrib]
  exact Finset.sum_congr rfl fun k _ => by ring

/-- Moving a real by its difference from another gives the other. -/
theorem move_real (a b : EReal) (ha : ∃ r : ℝ, a = (r : EReal)) (hb : ∃ r : ℝ, b = (r : EReal)) : a + (b - a) = b := by
  obtain ⟨p, rfl⟩ := ha
  obtain ⟨q, rfl⟩ := hb
  rw [← EReal.coe_sub, ← EReal.coe_add]
  congr 1
  ring

/-- A point's coordinates by batch and row. -/
theorem pt_flat (a : Fin 4) (b : Fin 1024) (k : Fin 256) : pt x (flat a b) k = x (ix3 a b k) := by
  unfold pt
  congr 1
  have h1 : (a.val * 1024 + b.val) / 1024 = a.val := by omega
  have h2 : (a.val * 1024 + b.val) % 1024 = b.val := by omega
  exact congrArg₂ (fun u v => ix3 u v k) (Fin.ext h1) (Fin.ext h2)

/-- The least distances, summed, are the squared differences from the codewords taken, summed. -/
theorem least_sum (hx : ∀ j, ∃ r : ℝ, x j = (r : EReal)) (he : ∀ j, ∃ r : ℝ, e j = (r : EReal)) :
    ∑ n ∈ Finset.range 4096, least x e n
      = ∑ a : Fin 4, ∑ b : Fin 1024, ∑ k : Fin 256, (x (ix3 a b k) - e (ix2 (nearest x e (flat a b)) k)) * (x (ix3 a b k) - e (ix2 (nearest x e (flat a b)) k)) := by
  rw [show (4096 : ℕ) = 4 * 1024 from rfl, ← sum_blocks 1024 (least x e) 4, Finset.sum_range]
  refine Finset.sum_congr rfl fun a _ => Finset.sum_congr rfl fun b _ => ?_
  rw [least_of x e _ (flat a b).isLt, dist_sq x e hx he]
  refine Finset.sum_congr rfl fun k _ => ?_
  rw [← pt_flat x]

/-- The two scalings of the loss agree. -/
theorem loss_scale (S : EReal) : S * Ideal.ofBits .f32 0x34800000#32 = Ideal.ofBits .f32 0x3E800000#32 * Ideal.div S (Ideal.ofBits .f32 0x49800000#32) := by
  rw [Cert.Near.scale_eq, Cert.Near.quarter_eq, Cert.Near.count_eq, Ideal.div_coe (by norm_num), mul_comm, mul_comm S, ← mul_assoc, ← EReal.coe_mul]
  congr 2
  norm_num

/-- The two shares agree. -/
theorem share_eq (m : Fin 8192) : share x e m = Ideal.div (∑ n : Fin 4096, hot (near x e n) m.val) (Ideal.ofBits .f32 0x45800000#32) := by
  unfold share
  rw [Finset.sum_range, Cert.Near.share_eq, Cert.Near.rows_eq, Ideal.div_coe (by norm_num)]
  exact congrArg (· * _) (Finset.sum_congr rfl fun n _ => mark_of x e m n.val n.isLt)

open Cert.ReferenceIdeal.Hand

/-- The reference's share of a codeword. -/
theorem refProb_share (m : Fin 8192) : refProb (F := Ideal) (refOne (F := Ideal) (refIdx (F := Ideal) (refDist (F := Ideal) x e))) (ix1 m) = share x e m := by
  rw [refProb_apply, share_eq]
  simp only [refOne_near]

/-- The reference's perplexity is the kernel's. -/
theorem refPerp_perp : refPerp (F := Ideal) (refOne (F := Ideal) (refIdx (F := Ideal) (refDist (F := Ideal) x e))) ix0 = perp x e := by
  rw [refPerp_apply]
  simp only [refProb_share]
  unfold perp
  rw [zero_sub]

/-- The reference's loss is the kernel's. -/
theorem refLoss_least (hx : ∀ j, ∃ r : ℝ, x j = (r : EReal)) (he : ∀ j, ∃ r : ℝ, e j = (r : EReal)) :
    refLoss (F := Ideal) x (refTake (F := Ideal) e (refIdx (F := Ideal) (refDist (F := Ideal) x e))) ix0 = (∑ n ∈ Finset.range 4096, least x e n) * Ideal.ofBits .f32 0x34800000#32 := by
  rw [refLoss_apply, loss_scale, least_sum x e hx he]
  simp only [refTake_near]

/-- The reference's moved points are the codewords taken. -/
theorem refQuant_take (hx : ∀ j, ∃ r : ℝ, x j = (r : EReal)) (he : ∀ j, ∃ r : ℝ, e j = (r : EReal)) (a : Fin 4) (b : Fin 1024) (k : Fin 256) :
    refQuant (F := Ideal) x (refTake (F := Ideal) e (refIdx (F := Ideal) (refDist (F := Ideal) x e))) (ix3 a b k) = e (ix2 (nearest x e (flat a b)) k) := by
  rw [refQuant_apply, refTake_near, move_real _ _ (hx _) (he _)]

end Cert.Meet

end
-- ==== Proof.PreFin.lean ====
module

public import proofs.«01_k».proof.Pre_finite
public import Idealize.ShloMosaic.Lib.ReduceAll
public import Idealize.ShloMosaic.PureOps.Ideal.Laws
public import proofs.«01_k».proof.Proof.Near

@[expose] public section

noncomputable section

namespace Cert.Pre_finite.Hand

open Idealize.ShloMosaic Cert.Pre_finite
open Facts

/-- The precondition's side conditions. -/
theorem facts : Cert.Pre_finite.Facts where
  bcast_S_S4x1024x256 := by decide
  reducesTo_S4x1024x256_S_d0_1_2 := by decide
  h_S_ := by decide
  bcast_S_S8192x256 := by decide
  reducesTo_S8192x256_S_d0_1 := by decide

/-- A value whose magnitude is below infinity is a real. -/
theorem real_of_abs (a : EReal) (h : (FloatOps.cmpf .olt (max a (-a) : Ideal .f32) (Ideal.ofBits .f32 0x7F800000#32) : BitVec 1) = 1#1) : ∃ r : ℝ, a = (r : EReal) := by
  rw [Ideal.cmpf_def, Cert.Near.inf_eq] at h
  have hlt : max a (-a) < (⊤ : EReal) := by
    by_contra hn
    simp only [Ideal.cmp, decide_eq_false hn] at h
    exact absurd h (by decide)
  induction a with
  | bot => simp at hlt
  | top => simp at hlt
  | coe r => exact ⟨r, rfl⟩

variable [Facts]

/-- Under the precondition every coordinate of every point and codeword is a real. -/
theorem finite (x : FVec Ideal S4x1024x256 .f32) (e : FVec Ideal S8192x256 .f32) (h : fn (F := Ideal) x e = fun _ => 1#1) :
    (∀ j, ∃ r : ℝ, x j = (r : EReal)) ∧ ∀ j, ∃ r : ℝ, e j = (r : EReal) := by
  haveI : Subsingleton S_.Idx := ⟨fun a b => funext fun i => i.elim0⟩
  have h0 := congrFun h (fun a => a.elim0)
  obtain ⟨h1, h2⟩ := IntOp.andi_eq_one.1 h0
  exact ⟨fun j => real_of_abs _ (Host.reduce_andi_all _ _ _ _ _ h1 j), fun j => real_of_abs _ (Host.reduce_andi_all _ _ _ _ _ h2 j)⟩

end Cert.Pre_finite.Hand

end
-- ==== Proof.Algebra.lean ====
module

public import proofs.«01_k».proof.Defs
public import proofs.«01_k».proof.Proof.Meet
public import proofs.«01_k».proof.Proof.PreFin

@[expose] public section

set_option maxRecDepth 16384

noncomputable section

namespace Cert.Meet

open Idealize.ShloMosaic Idealize.ShloMosaic.TcCoe Idealize.ShloMosaic.StableHlo Idealize.SL.Sem
open Cert.KernelIdeal.Hand Cert.ReferenceIdeal.Hand
open Cert.Near (nearest near hot)

/-- The reference's reshape of the indices at an index. -/
theorem cast_idx (q : IVec Cert.ReferenceIdeal.S4096 32) (a : Fin 4) (b : Fin 1024) :
    shapeCast Cert.ReferenceIdeal.S4x1024 q Cert.ReferenceIdeal.Facts₀.shapeCasts_S4096_S4x1024 (ix2 a b) = q (ix1 (flat a b)) := by
  pointwise

section

variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)
  (h0 : V (Proc.devRef .tc Cert.ReferenceIdeal.main_arg0) = argX m c) (h1 : V (Proc.devRef .tc Cert.ReferenceIdeal.main_arg1) = argE m c)
  (hx : ∀ j, ∃ r : ℝ, argX m c j = (r : EReal)) (he : ∀ j, ∃ r : ℝ, argE m c j = (r : EReal))

include h0 h1 in
/-- Both programs' indices are the same, -/
theorem eq_codes : after Cert.ReferenceIdeal.Hand.ops V (Proc.devRef .tc Cert.ReferenceIdeal.main_v36) = U5 m c Cert.KernelIdeal.main_v10 := by
  rw [after_v36]
  unfold idxOf
  rw [h0, h1]
  funext j
  obtain ⟨a, b, rfl⟩ : ∃ (a : Fin 4) (b : Fin 1024), j = ix2 a b := ⟨j 0, j 1, by funext i; match i with | ⟨0, _⟩ => rfl | ⟨1, _⟩ => rfl⟩
  exact (cast_idx _ a b).trans ((refIdx_near (argX m c) (argE m c) (flat a b)).trans (U5_v10 m c a b).symm)

include h0 h1 in
/-- and their one-hot rows, -/
theorem eq_hots : after Cert.ReferenceIdeal.Hand.ops V (Proc.devRef .tc Cert.ReferenceIdeal.main_v37) = U5 m c Cert.KernelIdeal.main_v12 := by
  rw [after_v37]
  unfold idxOf
  rw [h0, h1]
  funext j
  obtain ⟨a, b, k, rfl⟩ : ∃ (a : Fin 4) (b : Fin 1024) (k : Fin 8192), j = ix3 a b k :=
    ⟨j 0, j 1, j 2, by funext i; match i with | ⟨0, _⟩ => rfl | ⟨1, _⟩ => rfl | ⟨2, _⟩ => rfl⟩
  refine Eq.trans ?_ (U5_v12 m c a b k).symm
  refine Eq.trans ?_ (refOne_near (argX m c) (argE m c) (flat a b) k)
  generalize refOne (F := Ideal) (refIdx (F := Ideal) (refDist (F := Ideal) (argX m c) (argE m c))) = q
  pointwise

include h0 h1 in
/-- and their perplexities, -/
theorem eq_perp : after Cert.ReferenceIdeal.Hand.ops V (Proc.devRef .tc Cert.ReferenceIdeal.main_v35) = U5 m c Cert.KernelIdeal.main_v14 := by
  rw [after_v35]
  unfold idxOf
  rw [h0, h1]
  funext j
  obtain rfl : j = ix0 := funext fun i => i.elim0
  exact (refPerp_perp (argX m c) (argE m c)).trans (U5_v14 m c).symm

include h0 h1 hx he in
/-- and, between reals, their losses -/
theorem eq_loss : after Cert.ReferenceIdeal.Hand.ops V (Proc.devRef .tc Cert.ReferenceIdeal.main_v23) = U5 m c Cert.KernelIdeal.main_v13 := by
  rw [after_v23]
  unfold idxOf
  rw [h0, h1]
  funext j
  obtain rfl : j = ix0 := funext fun i => i.elim0
  exact (refLoss_least (argX m c) (argE m c) hx he).trans (U5_v13 m c).symm

include h0 h1 hx he in
/-- and their quantized points. -/
theorem eq_quant : after Cert.ReferenceIdeal.Hand.ops V (Proc.devRef .tc Cert.ReferenceIdeal.main_v25) = U5 m c Cert.KernelIdeal.main_v11 := by
  rw [after_v25]
  unfold idxOf
  rw [h0, h1]
  funext j
  obtain ⟨a, b, k, rfl⟩ : ∃ (a : Fin 4) (b : Fin 1024) (k : Fin 256), j = ix3 a b k :=
    ⟨j 0, j 1, j 2, by funext i; match i with | ⟨0, _⟩ => rfl | ⟨1, _⟩ => rfl | ⟨2, _⟩ => rfl⟩
  exact (refQuant_take (argX m c) (argE m c) hx he a b k).trans (U5_v11 m c a b k).symm

end

/-- From equal arguments, reals all, both programs end with the same five results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hargs
  have hfin := fun c => @Cert.Pre_finite.Hand.finite Cert.Pre_finite.Hand.facts _ _ (hpre c)
  refine ⟨fun c => U5 m c Cert.KernelIdeal.main_v11, fun c => U5 m c Cert.KernelIdeal.main_v10, fun c => U5 m c Cert.KernelIdeal.main_v12,
    fun c => U5 m c Cert.KernelIdeal.main_v13, fun c => U5 m c Cert.KernelIdeal.main_v14, ?_, ?_⟩
  · refine θ_run_mono (Cert.KernelIdeal.Hand.run_main m g) (fun r h c => ?_)
    exact ⟨h.1 c _ (mem_uc Cert.KernelIdeal.main_v11 rfl), h.1 c _ (mem_uc Cert.KernelIdeal.main_v10 rfl), h.1 c _ (mem_uc Cert.KernelIdeal.main_v12 rfl),
      h.1 c _ (mem_uc Cert.KernelIdeal.main_v13 rfl), h.1 c _ (mem_uc Cert.KernelIdeal.main_v14 rfl),
      (h.1 c _ (mem_uc Cert.KernelIdeal.main_arg0 rfl)).trans (U5_arg0 m c), (h.1 c _ (mem_uc Cert.KernelIdeal.main_arg1 rfl)).trans (U5_arg1 m c)⟩
  · refine θ_run_mono (Cert.ReferenceIdeal.Hand.run_main m' g') (fun r h c => ?_)
    have e0 : launchContents m' c (Proc.devRef .tc Cert.ReferenceIdeal.main_arg0) = argX m c := (hargs c).1
    have e1 : launchContents m' c (Proc.devRef .tc Cert.ReferenceIdeal.main_arg1) = argE m c := (hargs c).2
    exact ⟨(h c Cert.ReferenceIdeal.main_v25).trans (eq_quant m _ c e0 e1 (hfin c).1 (hfin c).2),
      (h c Cert.ReferenceIdeal.main_v36).trans (eq_codes m _ c e0 e1),
      (h c Cert.ReferenceIdeal.main_v37).trans (eq_hots m _ c e0 e1),
      (h c Cert.ReferenceIdeal.main_v23).trans (eq_loss m _ c e0 e1 (hfin c).1 (hfin c).2),
      (h c Cert.ReferenceIdeal.main_v35).trans (eq_perp m _ c e0 e1),
      (h c Cert.ReferenceIdeal.main_arg0).trans (keep _ Cert.ReferenceIdeal.main_arg0 (by decide) (by decide) (by decide) (by decide) (by decide)),
      (h c Cert.ReferenceIdeal.main_arg1).trans (keep _ Cert.ReferenceIdeal.main_arg1 (by decide) (by decide) (by decide) (by decide) (by decide))⟩

end Cert.Meet

end
-- ==== Proof.lean ====
module

public import proofs.«01_k».proof.Defs
public import proofs.«01_k».proof.Proof.K.Main
public import proofs.«01_k».proof.Proof.Main
public import proofs.«01_k».proof.Proof.RefRun
public import proofs.«01_k».proof.Proof.Algebra

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.Hand.facts,
  fun m ρ _ => Cert.Kernel.Hand.frame_main m ρ, fun m ρ _ => Cert.KernelIdeal.Hand.frame_main m ρ,
  fun m ρ _ => Cert.KernelIdeal.Hand.frame_main m ρ, fun m ρ _ => Cert.ReferenceIdeal.Hand.frame_main m ρ,
  fun m ρ _ => Cert.ReferenceIdeal.Hand.frame_main m ρ, trivial, Cert.Meet.algebraic⟩

end Cert.Proof

end
